-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x16x16x3 : Shape := ⟨5, ![2, 16, 16, 16, 3]⟩
abbrev S16x96 : Shape := ⟨2, ![16, 96]⟩
abbrev S96x16 : Shape := ⟨2, ![96, 16]⟩
abbrev S2x16x3x16x16 : Shape := ⟨5, ![2, 16, 3, 16, 16]⟩
abbrev S2x96x3x96x96 : Shape := ⟨5, ![2, 96, 3, 96, 96]⟩
abbrev S1x16x1x16x16 : Shape := ⟨5, ![1, 16, 1, 16, 16]⟩
abbrev S1x96x1x96x96 : Shape := ⟨5, ![1, 96, 1, 96, 96]⟩
abbrev S16x96x96 : Shape := ⟨3, ![16, 96, 96]⟩
abbrev S16x16x16 : Shape := ⟨3, ![16, 16, 16]⟩
abbrev S256x16 : Shape := ⟨2, ![256, 16]⟩
abbrev S256x96 : Shape := ⟨2, ![256, 96]⟩
abbrev S96x96 : Shape := ⟨2, ![96, 96]⟩
abbrev S1x96x96 : Shape := ⟨3, ![1, 96, 96]⟩
abbrev S1x1x1x96x96 : Shape := ⟨5, ![1, 1, 1, 96, 96]⟩
abbrev S2x96x96x96x3 : Shape := ⟨5, ![2, 96, 96, 96, 3]⟩

abbrev nBuf : Space → Nat
  | .hbm => 6
  | .vmem => 7
  | .smem => 0
  | _ => 0

abbrev bufTy : (tb : Table) → Fin (tcTables nBuf tb) → BufTy
  | .hbm, ⟨0, _⟩ => ⟨S2x16x16x16x3, .f32⟩
  | .hbm, ⟨1, _⟩ => ⟨S16x96, .f32⟩
  | .hbm, ⟨2, _⟩ => ⟨S96x16, .f32⟩
  | .hbm, ⟨3, _⟩ => ⟨S2x16x3x16x16, .f32⟩
  | .hbm, ⟨4, _⟩ => ⟨S2x96x3x96x96, .f32⟩
  | .hbm, ⟨5, _⟩ => ⟨S2x96x96x96x3, .f32⟩
  | .local _ .vmem, ⟨0, _⟩ => ⟨S1x16x1x16x16, .f32⟩
  | .local _ .vmem, ⟨1, _⟩ => ⟨S1x16x1x16x16, .f32⟩
  | .local _ .vmem, ⟨2, _⟩ => ⟨S16x96, .f32⟩
  | .local _ .vmem, ⟨3, _⟩ => ⟨S96x16, .f32⟩
  | .local _ .vmem, ⟨4, _⟩ => ⟨S1x96x1x96x96, .f32⟩
  | .local _ .vmem, ⟨5, _⟩ => ⟨S1x96x1x96x96, .f32⟩
  | .local _ .vmem, ⟨6, _⟩ => ⟨S16x96x96, .f32⟩
  | _, _ => ⟨S2x16x16x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x16x1x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x96x1x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x16x16x16x3 : Shape := ⟨5, ![2, 16, 16, 16, 3]⟩
abbrev S96 : Shape := ⟨1, ![96]⟩
abbrev S96x96x96 : Shape := ⟨3, ![96, 96, 96]⟩
abbrev S96x96x96x1 : Shape := ⟨4, ![96, 96, 96, 1]⟩
abbrev S96x96x96x3 : Shape := ⟨4, ![96, 96, 96, 3]⟩
abbrev S1x96x96x96x3 : Shape := ⟨5, ![1, 96, 96, 96, 3]⟩
abbrev S1x1x1x96x1x96x1x96x1x3 : Shape := ⟨10, ![1, 1, 1, 96, 1, 96, 1, 96, 1, 3]⟩
abbrev S2x1x1x96x1x96x1x96x1x3 : Shape := ⟨10, ![2, 1, 1, 96, 1, 96, 1, 96, 1, 3]⟩
abbrev S2x96x96x96x3 : Shape := ⟨5, ![2, 96, 96, 96, 3]⟩
abbrev S2x96x96x96x1 : Shape := ⟨5, ![2, 96, 96, 96, 1]⟩
abbrev S2x96x96x96 : Shape := ⟨4, ![2, 96, 96, 96]⟩
abbrev S_ : Shape := ⟨0, ![]⟩
abbrev S2 : Shape := ⟨1, ![2]⟩
abbrev S2x1x1x1 : Shape := ⟨4, ![2, 1, 1, 1]⟩
abbrev S2x96x96x96x4 : Shape := ⟨5, ![2, 96, 96, 96, 4]⟩

abbrev nBuf : Space → Nat
  | .hbm => 443
  | .vmem => 0
  | .smem => 0
  | _ => 0

abbrev hbmTy0_0 (i : Nat) : BufTy := match i % 128 with
  | 0 => ⟨S2x16x16x16x3, .f32⟩
  | 1 => ⟨S96, .f32⟩
  | 2 => ⟨S96, .f32⟩
  | 3 => ⟨S96, .f32⟩
  | 4 => ⟨S96x96x96, .f32⟩
  | 5 => ⟨S96x96x96, .f32⟩
  | 6 => ⟨S96x96x96, .f32⟩
  | 7 => ⟨S96x96x96x1, .f32⟩
  | 8 => ⟨S96x96x96x1, .f32⟩
  | 9 => ⟨S96x96x96x1, .f32⟩
  | 10 => ⟨S96x96x96x3, .f32⟩
  | 11 => ⟨S1x96x96x96x3, .f32⟩
  | 12 => ⟨S1x1x1x96x1x96x1x96x1x3, .f32⟩
  | 13 => ⟨S2x1x1x96x1x96x1x96x1x3, .f32⟩
  | 14 => ⟨S2x96x96x96x3, .f32⟩
  | 15 => ⟨S2x96x96x96x1, .f32⟩
  | 16 => ⟨S2x96x96x96, .f32⟩
  | 17 => ⟨S2x96x96x96x1, .f32⟩
  | 18 => ⟨S2x96x96x96, .f32⟩
  | 19 => ⟨S2x96x96x96x1, .f32⟩
  | 20 => ⟨S2x96x96x96, .f32⟩
  | 21 => ⟨S2x96x96x96, .f32⟩
  | 22 => ⟨S2x96x96x96, .f32⟩
  | 23 => ⟨S2x96x96x96, .f32⟩
  | 24 => ⟨S2x96x96x96, .i32⟩
  | 25 => ⟨S_, .i32⟩
  | 26 => ⟨S_, .i32⟩
  | 27 => ⟨S_, .i32⟩
  | 28 => ⟨S2x96x96x96, .i32⟩
  | 29 => ⟨S2x96x96x96, .i32⟩
  | 30 => ⟨S_, .i32⟩
  | 31 => ⟨S2x96x96x96, .i32⟩
  | 32 => ⟨S2x96x96x96, .i32⟩
  | 33 => ⟨S2x96x96x96, .i32⟩
  | 34 => ⟨S_, .i32⟩
  | 35 => ⟨S_, .i32⟩
  | 36 => ⟨S_, .i32⟩
  | 37 => ⟨S2x96x96x96, .i32⟩
  | 38 => ⟨S2x96x96x96, .i32⟩
  | 39 => ⟨S_, .i32⟩
  | 40 => ⟨S2x96x96x96, .i32⟩
  | 41 => ⟨S2x96x96x96, .i32⟩
  | 42 => ⟨S2x96x96x96, .i32⟩
  | 43 => ⟨S_, .i32⟩
  | 44 => ⟨S_, .i32⟩
  | 45 => ⟨S_, .i32⟩
  | 46 => ⟨S2x96x96x96, .i32⟩
  | 47 => ⟨S2x96x96x96, .i32⟩
  | 48 => ⟨S_, .i32⟩
  | 49 => ⟨S2x96x96x96, .i32⟩
  | 50 => ⟨S2x96x96x96, .i32⟩
  | 51 => ⟨S_, .f32⟩
  | 52 => ⟨S2x96x96x96, .f32⟩
  | 53 => ⟨S2x96x96x96, .f32⟩
  | 54 => ⟨S2x96x96x96, .i32⟩
  | 55 => ⟨S_, .i32⟩
  | 56 => ⟨S_, .i32⟩
  | 57 => ⟨S_, .i32⟩
  | 58 => ⟨S2x96x96x96, .i32⟩
  | 59 => ⟨S2x96x96x96, .i32⟩
  | 60 => ⟨S_, .i32⟩
  | 61 => ⟨S2x96x96x96, .i32⟩
  | 62 => ⟨S2x96x96x96, .i32⟩
  | 63 => ⟨S_, .f32⟩
  | 64 => ⟨S2x96x96x96, .f32⟩
  | 65 => ⟨S2x96x96x96, .f32⟩
  | 66 => ⟨S2x96x96x96, .i32⟩
  | 67 => ⟨S_, .i32⟩
  | 68 => ⟨S_, .i32⟩
  | 69 => ⟨S_, .i32⟩
  | 70 => ⟨S2x96x96x96, .i32⟩
  | 71 => ⟨S2x96x96x96, .i32⟩
  | 72 => ⟨S_, .i32⟩
  | 73 => ⟨S2x96x96x96, .i32⟩
  | 74 => ⟨S2x96x96x96, .i32⟩
  | 75 => ⟨S_, .f32⟩
  | 76 => ⟨S2x96x96x96, .f32⟩
  | 77 => ⟨S2x96x96x96, .f32⟩
  | 78 => ⟨S2x96x96x96, .i32⟩
  | 79 => ⟨S_, .i32⟩
  | 80 => ⟨S_, .i32⟩
  | 81 => ⟨S_, .i32⟩
  | 82 => ⟨S2x96x96x96, .i32⟩
  | 83 => ⟨S2x96x96x96, .i32⟩
  | 84 => ⟨S_, .i32⟩
  | 85 => ⟨S2x96x96x96, .i32⟩
  | 86 => ⟨S2x96x96x96, .i32⟩
  | 87 => ⟨S2x96x96x96, .f32⟩
  | 88 => ⟨S2x96x96x96x1, .f32⟩
  | 89 => ⟨S2x96x96x96, .f32⟩
  | 90 => ⟨S2x96x96x96x1, .f32⟩
  | 91 => ⟨S2x96x96x96, .f32⟩
  | 92 => ⟨S2x96x96x96x1, .f32⟩
  | 93 => ⟨S_, .f32⟩
  | 94 => ⟨S2x96x96x96x1, .f32⟩
  | 95 => ⟨S2x96x96x96x1, .f32⟩
  | 96 => ⟨S_, .f32⟩
  | 97 => ⟨S2x96x96x96x1, .f32⟩
  | 98 => ⟨S2x96x96x96x1, .f32⟩
  | 99 => ⟨S_, .f32⟩
  | 100 => ⟨S2x96x96x96x1, .f32⟩
  | 101 => ⟨S2x96x96x96x1, .f32⟩
  | 102 => ⟨S2, .i32⟩
  | 103 => ⟨S2x1x1x1, .i32⟩
  | 104 => ⟨S2x96x96x96, .i32⟩
  | 105 => ⟨S_, .f32⟩
  | 106 => ⟨S2x96x96x96x3, .f32⟩
  | 107 => ⟨S_, .i32⟩
  | 108 => ⟨S2x96x96x96, .i32⟩
  | 109 => ⟨S2x96x96x96, .i1⟩
  | 110 => ⟨S_, .i32⟩
  | 111 => ⟨S2x96x96x96, .i32⟩
  | 112 => ⟨S2x96x96x96, .i32⟩
  | 113 => ⟨S2x96x96x96, .i32⟩
  | 114 => ⟨S_, .i32⟩
  | 115 => ⟨S2x96x96x96, .i32⟩
  | 116 => ⟨S2x96x96x96, .i1⟩
  | 117 => ⟨S_, .i32⟩
  | 118 => ⟨S2x96x96x96, .i32⟩
  | 119 => ⟨S2x96x96x96, .i32⟩
  | 120 => ⟨S2x96x96x96, .i32⟩
  | 121 => ⟨S_, .i32⟩
  | 122 => ⟨S2x96x96x96, .i32⟩
  | 123 => ⟨S2x96x96x96, .i1⟩
  | 124 => ⟨S_, .i32⟩
  | 125 => ⟨S2x96x96x96, .i32⟩
  | 126 => ⟨S2x96x96x96, .i32⟩
  | 127 => ⟨S2x96x96x96, .i32⟩
  | _ => ⟨S2x16x16x16x3, .f32⟩

abbrev hbmTy0_1 (i : Nat) : BufTy := match i % 128 with
  | 0 => ⟨S_, .i32⟩
  | 1 => ⟨S2x96x96x96, .i32⟩
  | 2 => ⟨S2x96x96x96, .i1⟩
  | 3 => ⟨S_, .i32⟩
  | 4 => ⟨S2x96x96x96, .i32⟩
  | 5 => ⟨S2x96x96x96, .i32⟩
  | 6 => ⟨S2x96x96x96, .i32⟩
  | 7 => ⟨S2x96x96x96x1, .i32⟩
  | 8 => ⟨S2x96x96x96x1, .i32⟩
  | 9 => ⟨S2x96x96x96x1, .i32⟩
  | 10 => ⟨S2x96x96x96x1, .i32⟩
  | 11 => ⟨S2x96x96x96x4, .i32⟩
  | 12 => ⟨S2x96x96x96x3, .f32⟩
  | 13 => ⟨S_, .f32⟩
  | 14 => ⟨S2x96x96x96x1, .f32⟩
  | 15 => ⟨S2x96x96x96x1, .f32⟩
  | 16 => ⟨S2x96x96x96x1, .f32⟩
  | 17 => ⟨S2x96x96x96x1, .f32⟩
  | 18 => ⟨S2x96x96x96x3, .f32⟩
  | 19 => ⟨S2x96x96x96x3, .f32⟩
  | 20 => ⟨S2x96x96x96x3, .f32⟩
  | 21 => ⟨S_, .i32⟩
  | 22 => ⟨S2x96x96x96, .i32⟩
  | 23 => ⟨S2x96x96x96, .i1⟩
  | 24 => ⟨S_, .i32⟩
  | 25 => ⟨S2x96x96x96, .i32⟩
  | 26 => ⟨S2x96x96x96, .i32⟩
  | 27 => ⟨S2x96x96x96, .i32⟩
  | 28 => ⟨S_, .i32⟩
  | 29 => ⟨S2x96x96x96, .i32⟩
  | 30 => ⟨S2x96x96x96, .i1⟩
  | 31 => ⟨S_, .i32⟩
  | 32 => ⟨S2x96x96x96, .i32⟩
  | 33 => ⟨S2x96x96x96, .i32⟩
  | 34 => ⟨S2x96x96x96, .i32⟩
  | 35 => ⟨S_, .i32⟩
  | 36 => ⟨S2x96x96x96, .i32⟩
  | 37 => ⟨S2x96x96x96, .i1⟩
  | 38 => ⟨S_, .i32⟩
  | 39 => ⟨S2x96x96x96, .i32⟩
  | 40 => ⟨S2x96x96x96, .i32⟩
  | 41 => ⟨S2x96x96x96, .i32⟩
  | 42 => ⟨S_, .i32⟩
  | 43 => ⟨S2x96x96x96, .i32⟩
  | 44 => ⟨S2x96x96x96, .i1⟩
  | 45 => ⟨S_, .i32⟩
  | 46 => ⟨S2x96x96x96, .i32⟩
  | 47 => ⟨S2x96x96x96, .i32⟩
  | 48 => ⟨S2x96x96x96, .i32⟩
  | 49 => ⟨S2x96x96x96x1, .i32⟩
  | 50 => ⟨S2x96x96x96x1, .i32⟩
  | 51 => ⟨S2x96x96x96x1, .i32⟩
  | 52 => ⟨S2x96x96x96x1, .i32⟩
  | 53 => ⟨S2x96x96x96x4, .i32⟩
  | 54 => ⟨S2x96x96x96x3, .f32⟩
  | 55 => ⟨S_, .f32⟩
  | 56 => ⟨S2x96x96x96x1, .f32⟩
  | 57 => ⟨S2x96x96x96x1, .f32⟩
  | 58 => ⟨S2x96x96x96x1, .f32⟩
  | 59 => ⟨S2x96x96x96x1, .f32⟩
  | 60 => ⟨S2x96x96x96x3, .f32⟩
  | 61 => ⟨S2x96x96x96x3, .f32⟩
  | 62 => ⟨S2x96x96x96x3, .f32⟩
  | 63 => ⟨S_, .i32⟩
  | 64 => ⟨S2x96x96x96, .i32⟩
  | 65 => ⟨S2x96x96x96, .i1⟩
  | 66 => ⟨S_, .i32⟩
  | 67 => ⟨S2x96x96x96, .i32⟩
  | 68 => ⟨S2x96x96x96, .i32⟩
  | 69 => ⟨S2x96x96x96, .i32⟩
  | 70 => ⟨S_, .i32⟩
  | 71 => ⟨S2x96x96x96, .i32⟩
  | 72 => ⟨S2x96x96x96, .i1⟩
  | 73 => ⟨S_, .i32⟩
  | 74 => ⟨S2x96x96x96, .i32⟩
  | 75 => ⟨S2x96x96x96, .i32⟩
  | 76 => ⟨S2x96x96x96, .i32⟩
  | 77 => ⟨S_, .i32⟩
  | 78 => ⟨S2x96x96x96, .i32⟩
  | 79 => ⟨S2x96x96x96, .i1⟩
  | 80 => ⟨S_, .i32⟩
  | 81 => ⟨S2x96x96x96, .i32⟩
  | 82 => ⟨S2x96x96x96, .i32⟩
  | 83 => ⟨S2x96x96x96, .i32⟩
  | 84 => ⟨S_, .i32⟩
  | 85 => ⟨S2x96x96x96, .i32⟩
  | 86 => ⟨S2x96x96x96, .i1⟩
  | 87 => ⟨S_, .i32⟩
  | 88 => ⟨S2x96x96x96, .i32⟩
  | 89 => ⟨S2x96x96x96, .i32⟩
  | 90 => ⟨S2x96x96x96, .i32⟩
  | 91 => ⟨S2x96x96x96x1, .i32⟩
  | 92 => ⟨S2x96x96x96x1, .i32⟩
  | 93 => ⟨S2x96x96x96x1, .i32⟩
  | 94 => ⟨S2x96x96x96x1, .i32⟩
  | 95 => ⟨S2x96x96x96x4, .i32⟩
  | 96 => ⟨S2x96x96x96x3, .f32⟩
  | 97 => ⟨S_, .f32⟩
  | 98 => ⟨S2x96x96x96x1, .f32⟩
  | 99 => ⟨S2x96x96x96x1, .f32⟩
  | 100 => ⟨S2x96x96x96x1, .f32⟩
  | 101 => ⟨S2x96x96x96x1, .f32⟩
  | 102 => ⟨S2x96x96x96x3, .f32⟩
  | 103 => ⟨S2x96x96x96x3, .f32⟩
  | 104 => ⟨S2x96x96x96x3, .f32⟩
  | 105 => ⟨S_, .i32⟩
  | 106 => ⟨S2x96x96x96, .i32⟩
  | 107 => ⟨S2x96x96x96, .i1⟩
  | 108 => ⟨S_, .i32⟩
  | 109 => ⟨S2x96x96x96, .i32⟩
  | 110 => ⟨S2x96x96x96, .i32⟩
  | 111 => ⟨S2x96x96x96, .i32⟩
  | 112 => ⟨S_, .i32⟩
  | 113 => ⟨S2x96x96x96, .i32⟩
  | 114 => ⟨S2x96x96x96, .i1⟩
  | 115 => ⟨S_, .i32⟩
  | 116 => ⟨S2x96x96x96, .i32⟩
  | 117 => ⟨S2x96x96x96, .i32⟩
  | 118 => ⟨S2x96x96x96, .i32⟩
  | 119 => ⟨S_, .i32⟩
  | 120 => ⟨S2x96x96x96, .i32⟩
  | 121 => ⟨S2x96x96x96, .i1⟩
  | 122 => ⟨S_, .i32⟩
  | 123 => ⟨S2x96x96x96, .i32⟩
  | 124 => ⟨S2x96x96x96, .i32⟩
  | 125 => ⟨S2x96x96x96, .i32⟩
  | 126 => ⟨S_, .i32⟩
  | 127 => ⟨S2x96x96x96, .i32⟩
  | _ => ⟨S2x16x16x16x3, .f32⟩

abbrev hbmTy0_2 (i : Nat) : BufTy := match i % 128 with
  | 0 => ⟨S2x96x96x96, .i1⟩
  | 1 => ⟨S_, .i32⟩
  | 2 => ⟨S2x96x96x96, .i32⟩
  | 3 => ⟨S2x96x96x96, .i32⟩
  | 4 => ⟨S2x96x96x96, .i32⟩
  | 5 => ⟨S2x96x96x96x1, .i32⟩
  | 6 => ⟨S2x96x96x96x1, .i32⟩
  | 7 => ⟨S2x96x96x96x1, .i32⟩
  | 8 => ⟨S2x96x96x96x1, .i32⟩
  | 9 => ⟨S2x96x96x96x4, .i32⟩
  | 10 => ⟨S2x96x96x96x3, .f32⟩
  | 11 => ⟨S_, .f32⟩
  | 12 => ⟨S2x96x96x96x1, .f32⟩
  | 13 => ⟨S2x96x96x96x1, .f32⟩
  | 14 => ⟨S2x96x96x96x1, .f32⟩
  | 15 => ⟨S2x96x96x96x1, .f32⟩
  | 16 => ⟨S2x96x96x96x3, .f32⟩
  | 17 => ⟨S2x96x96x96x3, .f32⟩
  | 18 => ⟨S2x96x96x96x3, .f32⟩
  | 19 => ⟨S_, .i32⟩
  | 20 => ⟨S2x96x96x96, .i32⟩
  | 21 => ⟨S2x96x96x96, .i1⟩
  | 22 => ⟨S_, .i32⟩
  | 23 => ⟨S2x96x96x96, .i32⟩
  | 24 => ⟨S2x96x96x96, .i32⟩
  | 25 => ⟨S2x96x96x96, .i32⟩
  | 26 => ⟨S_, .i32⟩
  | 27 => ⟨S2x96x96x96, .i32⟩
  | 28 => ⟨S2x96x96x96, .i1⟩
  | 29 => ⟨S_, .i32⟩
  | 30 => ⟨S2x96x96x96, .i32⟩
  | 31 => ⟨S2x96x96x96, .i32⟩
  | 32 => ⟨S2x96x96x96, .i32⟩
  | 33 => ⟨S_, .i32⟩
  | 34 => ⟨S2x96x96x96, .i32⟩
  | 35 => ⟨S2x96x96x96, .i1⟩
  | 36 => ⟨S_, .i32⟩
  | 37 => ⟨S2x96x96x96, .i32⟩
  | 38 => ⟨S2x96x96x96, .i32⟩
  | 39 => ⟨S2x96x96x96, .i32⟩
  | 40 => ⟨S_, .i32⟩
  | 41 => ⟨S2x96x96x96, .i32⟩
  | 42 => ⟨S2x96x96x96, .i1⟩
  | 43 => ⟨S_, .i32⟩
  | 44 => ⟨S2x96x96x96, .i32⟩
  | 45 => ⟨S2x96x96x96, .i32⟩
  | 46 => ⟨S2x96x96x96, .i32⟩
  | 47 => ⟨S2x96x96x96x1, .i32⟩
  | 48 => ⟨S2x96x96x96x1, .i32⟩
  | 49 => ⟨S2x96x96x96x1, .i32⟩
  | 50 => ⟨S2x96x96x96x1, .i32⟩
  | 51 => ⟨S2x96x96x96x4, .i32⟩
  | 52 => ⟨S2x96x96x96x3, .f32⟩
  | 53 => ⟨S_, .f32⟩
  | 54 => ⟨S2x96x96x96x1, .f32⟩
  | 55 => ⟨S2x96x96x96x1, .f32⟩
  | 56 => ⟨S2x96x96x96x1, .f32⟩
  | 57 => ⟨S2x96x96x96x1, .f32⟩
  | 58 => ⟨S2x96x96x96x3, .f32⟩
  | 59 => ⟨S2x96x96x96x3, .f32⟩
  | 60 => ⟨S2x96x96x96x3, .f32⟩
  | 61 => ⟨S_, .i32⟩
  | 62 => ⟨S2x96x96x96, .i32⟩
  | 63 => ⟨S2x96x96x96, .i1⟩
  | 64 => ⟨S_, .i32⟩
  | 65 => ⟨S2x96x96x96, .i32⟩
  | 66 => ⟨S2x96x96x96, .i32⟩
  | 67 => ⟨S2x96x96x96, .i32⟩
  | 68 => ⟨S_, .i32⟩
  | 69 => ⟨S2x96x96x96, .i32⟩
  | 70 => ⟨S2x96x96x96, .i1⟩
  | 71 => ⟨S_, .i32⟩
  | 72 => ⟨S2x96x96x96, .i32⟩
  | 73 => ⟨S2x96x96x96, .i32⟩
  | 74 => ⟨S2x96x96x96, .i32⟩
  | 75 => ⟨S_, .i32⟩
  | 76 => ⟨S2x96x96x96, .i32⟩
  | 77 => ⟨S2x96x96x96, .i1⟩
  | 78 => ⟨S_, .i32⟩
  | 79 => ⟨S2x96x96x96, .i32⟩
  | 80 => ⟨S2x96x96x96, .i32⟩
  | 81 => ⟨S2x96x96x96, .i32⟩
  | 82 => ⟨S_, .i32⟩
  | 83 => ⟨S2x96x96x96, .i32⟩
  | 84 => ⟨S2x96x96x96, .i1⟩
  | 85 => ⟨S_, .i32⟩
  | 86 => ⟨S2x96x96x96, .i32⟩
  | 87 => ⟨S2x96x96x96, .i32⟩
  | 88 => ⟨S2x96x96x96, .i32⟩
  | 89 => ⟨S2x96x96x96x1, .i32⟩
  | 90 => ⟨S2x96x96x96x1, .i32⟩
  | 91 => ⟨S2x96x96x96x1, .i32⟩
  | 92 => ⟨S2x96x96x96x1, .i32⟩
  | 93 => ⟨S2x96x96x96x4, .i32⟩
  | 94 => ⟨S2x96x96x96x3, .f32⟩
  | 95 => ⟨S_, .f32⟩
  | 96 => ⟨S2x96x96x96x1, .f32⟩
  | 97 => ⟨S2x96x96x96x1, .f32⟩
  | 98 => ⟨S2x96x96x96x1, .f32⟩
  | 99 => ⟨S2x96x96x96x1, .f32⟩
  | 100 => ⟨S2x96x96x96x3, .f32⟩
  | 101 => ⟨S2x96x96x96x3, .f32⟩
  | 102 => ⟨S2x96x96x96x3, .f32⟩
  | 103 => ⟨S_, .i32⟩
  | 104 => ⟨S2x96x96x96, .i32⟩
  | 105 => ⟨S2x96x96x96, .i1⟩
  | 106 => ⟨S_, .i32⟩
  | 107 => ⟨S2x96x96x96, .i32⟩
  | 108 => ⟨S2x96x96x96, .i32⟩
  | 109 => ⟨S2x96x96x96, .i32⟩
  | 110 => ⟨S_, .i32⟩
  | 111 => ⟨S2x96x96x96, .i32⟩
  | 112 => ⟨S2x96x96x96, .i1⟩
  | 113 => ⟨S_, .i32⟩
  | 114 => ⟨S2x96x96x96, .i32⟩
  | 115 => ⟨S2x96x96x96, .i32⟩
  | 116 => ⟨S2x96x96x96, .i32⟩
  | 117 => ⟨S_, .i32⟩
  | 118 => ⟨S2x96x96x96, .i32⟩
  | 119 => ⟨S2x96x96x96, .i1⟩
  | 120 => ⟨S_, .i32⟩
  | 121 => ⟨S2x96x96x96, .i32⟩
  | 122 => ⟨S2x96x96x96, .i32⟩
  | 123 => ⟨S2x96x96x96, .i32⟩
  | 124 => ⟨S_, .i32⟩
  | 125 => ⟨S2x96x96x96, .i32⟩
  | 126 => ⟨S2x96x96x96, .i1⟩
  | 127 => ⟨S_, .i32⟩
  | _ => ⟨S2x16x16x16x3, .f32⟩

abbrev hbmTy0_3 (i : Nat) : BufTy := match i % 128 with
  | 0 => ⟨S2x96x96x96, .i32⟩
  | 1 => ⟨S2x96x96x96, .i32⟩
  | 2 => ⟨S2x96x96x96, .i32⟩
  | 3 => ⟨S2x96x96x96x1, .i32⟩
  | 4 => ⟨S2x96x96x96x1, .i32⟩
  | 5 => ⟨S2x96x96x96x1, .i32⟩
  | 6 => ⟨S2x96x96x96x1, .i32⟩
  | 7 => ⟨S2x96x96x96x4, .i32⟩
  | 8 => ⟨S2x96x96x96x3, .f32⟩
  | 9 => ⟨S_, .f32⟩
  | 10 => ⟨S2x96x96x96x1, .f32⟩
  | 11 => ⟨S2x96x96x96x1, .f32⟩
  | 12 => ⟨S2x96x96x96x1, .f32⟩
  | 13 => ⟨S2x96x96x96x1, .f32⟩
  | 14 => ⟨S2x96x96x96x3, .f32⟩
  | 15 => ⟨S2x96x96x96x3, .f32⟩
  | 16 => ⟨S2x96x96x96x3, .f32⟩
  | 17 => ⟨S_, .i32⟩
  | 18 => ⟨S2x96x96x96, .i32⟩
  | 19 => ⟨S2x96x96x96, .i1⟩
  | 20 => ⟨S_, .i32⟩
  | 21 => ⟨S2x96x96x96, .i32⟩
  | 22 => ⟨S2x96x96x96, .i32⟩
  | 23 => ⟨S2x96x96x96, .i32⟩
  | 24 => ⟨S_, .i32⟩
  | 25 => ⟨S2x96x96x96, .i32⟩
  | 26 => ⟨S2x96x96x96, .i1⟩
  | 27 => ⟨S_, .i32⟩
  | 28 => ⟨S2x96x96x96, .i32⟩
  | 29 => ⟨S2x96x96x96, .i32⟩
  | 30 => ⟨S2x96x96x96, .i32⟩
  | 31 => ⟨S_, .i32⟩
  | 32 => ⟨S2x96x96x96, .i32⟩
  | 33 => ⟨S2x96x96x96, .i1⟩
  | 34 => ⟨S_, .i32⟩
  | 35 => ⟨S2x96x96x96, .i32⟩
  | 36 => ⟨S2x96x96x96, .i32⟩
  | 37 => ⟨S2x96x96x96, .i32⟩
  | 38 => ⟨S_, .i32⟩
  | 39 => ⟨S2x96x96x96, .i32⟩
  | 40 => ⟨S2x96x96x96, .i1⟩
  | 41 => ⟨S_, .i32⟩
  | 42 => ⟨S2x96x96x96, .i32⟩
  | 43 => ⟨S2x96x96x96, .i32⟩
  | 44 => ⟨S2x96x96x96, .i32⟩
  | 45 => ⟨S2x96x96x96x1, .i32⟩
  | 46 => ⟨S2x96x96x96x1, .i32⟩
  | 47 => ⟨S2x96x96x96x1, .i32⟩
  | 48 => ⟨S2x96x96x96x1, .i32⟩
  | 49 => ⟨S2x96x96x96x4, .i32⟩
  | 50 => ⟨S2x96x96x96x3, .f32⟩
  | 51 => ⟨S_, .f32⟩
  | 52 => ⟨S2x96x96x96x1, .f32⟩
  | 53 => ⟨S2x96x96x96x1, .f32⟩
  | 54 => ⟨S2x96x96x96x1, .f32⟩
  | 55 => ⟨S2x96x96x96x1, .f32⟩
  | 56 => ⟨S2x96x96x96x3, .f32⟩
  | 57 => ⟨S2x96x96x96x3, .f32⟩
  | 58 => ⟨S2x96x96x96x3, .f32⟩
  | _ => ⟨S2x16x16x16x3, .f32⟩

abbrev hbmTy (i : Nat) : BufTy := match i / 128 with
  | 0 => hbmTy0_0 i
  | 1 => hbmTy0_1 i
  | 2 => hbmTy0_2 i
  | 3 => hbmTy0_3 i
  | _ => ⟨S2x16x16x16x3, .f32⟩

abbrev bufTy : (tb : Table) → Fin (tcTables nBuf tb) → BufTy
  | .hbm, ⟨i, _⟩ => hbmTy i
  | _, _ => ⟨S2x16x16x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_c_6 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_c_9 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v29 : Ref sig .tc := ⟨.hbm, 62, rfl⟩
abbrev main_cst_10 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_11 : Ref sig .tc := ⟨.hbm, 67, rfl⟩
abbrev main_c_12 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v33 : Ref sig .tc := ⟨.hbm, 74, rfl⟩
abbrev main_cst_13 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_14 : Ref sig .tc := ⟨.hbm, 79, rfl⟩
abbrev main_c_15 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_16 : Ref sig .tc := ⟨.hbm, 93, rfl⟩
abbrev main_v44 : Ref sig .tc := ⟨.hbm, 94, rfl⟩
abbrev main_v45 : Ref sig .tc := ⟨.hbm, 95, rfl⟩
abbrev main_cst_17 : Ref sig .tc := ⟨.hbm, 96, rfl⟩
abbrev main_v46 : Ref sig .tc := ⟨.hbm, 97, rfl⟩
abbrev main_v47 : Ref sig .tc := ⟨.hbm, 98, rfl⟩
abbrev main_cst_18 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_c_20 : Ref sig .tc := ⟨.hbm, 107, rfl⟩
abbrev main_v54 : Ref sig .tc := ⟨.hbm, 108, rfl⟩
abbrev main_v55 : Ref sig .tc := ⟨.hbm, 109, rfl⟩
abbrev main_c_21 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_c_22 : Ref sig .tc := ⟨.hbm, 114, rfl⟩
abbrev main_v59 : Ref sig .tc := ⟨.hbm, 115, rfl⟩
abbrev main_v60 : Ref sig .tc := ⟨.hbm, 116, rfl⟩
abbrev main_c_23 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_24 : Ref sig .tc := ⟨.hbm, 121, rfl⟩
abbrev main_v64 : Ref sig .tc := ⟨.hbm, 122, rfl⟩
abbrev main_v65 : Ref sig .tc := ⟨.hbm, 123, rfl⟩
abbrev main_c_25 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_c_26 : Ref sig .tc := ⟨.hbm, 128, rfl⟩
abbrev main_v69 : Ref sig .tc := ⟨.hbm, 129, rfl⟩
abbrev main_v70 : Ref sig .tc := ⟨.hbm, 130, rfl⟩
abbrev main_c_27 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_28 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_29 : Ref sig .tc := ⟨.hbm, 149, rfl⟩
abbrev main_v87 : Ref sig .tc := ⟨.hbm, 150, rfl⟩
abbrev main_v88 : Ref sig .tc := ⟨.hbm, 151, rfl⟩
abbrev main_c_30 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_c_31 : Ref sig .tc := ⟨.hbm, 156, rfl⟩
abbrev main_v92 : Ref sig .tc := ⟨.hbm, 157, rfl⟩
abbrev main_v93 : Ref sig .tc := ⟨.hbm, 158, rfl⟩
abbrev main_c_32 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_c_33 : Ref sig .tc := ⟨.hbm, 163, rfl⟩
abbrev main_v97 : Ref sig .tc := ⟨.hbm, 164, rfl⟩
abbrev main_v98 : Ref sig .tc := ⟨.hbm, 165, rfl⟩
abbrev main_c_34 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_c_35 : Ref sig .tc := ⟨.hbm, 170, rfl⟩
abbrev main_v102 : Ref sig .tc := ⟨.hbm, 171, rfl⟩
abbrev main_v103 : Ref sig .tc := ⟨.hbm, 172, rfl⟩
abbrev main_c_36 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_37 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_c_38 : Ref sig .tc := ⟨.hbm, 191, rfl⟩
abbrev main_v120 : Ref sig .tc := ⟨.hbm, 192, rfl⟩
abbrev main_v121 : Ref sig .tc := ⟨.hbm, 193, rfl⟩
abbrev main_c_39 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_c_40 : Ref sig .tc := ⟨.hbm, 198, rfl⟩
abbrev main_v125 : Ref sig .tc := ⟨.hbm, 199, rfl⟩
abbrev main_v126 : Ref sig .tc := ⟨.hbm, 200, rfl⟩
abbrev main_c_41 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_c_42 : Ref sig .tc := ⟨.hbm, 205, rfl⟩
abbrev main_v130 : Ref sig .tc := ⟨.hbm, 206, rfl⟩
abbrev main_v131 : Ref sig .tc := ⟨.hbm, 207, rfl⟩
abbrev main_c_43 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_c_44 : Ref sig .tc := ⟨.hbm, 212, rfl⟩
abbrev main_v135 : Ref sig .tc := ⟨.hbm, 213, rfl⟩
abbrev main_v136 : Ref sig .tc := ⟨.hbm, 214, rfl⟩
abbrev main_c_45 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_cst_46 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_c_47 : Ref sig .tc := ⟨.hbm, 233, rfl⟩
abbrev main_v153 : Ref sig .tc := ⟨.hbm, 234, rfl⟩
abbrev main_v154 : Ref sig .tc := ⟨.hbm, 235, rfl⟩
abbrev main_c_48 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_c_49 : Ref sig .tc := ⟨.hbm, 240, rfl⟩
abbrev main_v158 : Ref sig .tc := ⟨.hbm, 241, rfl⟩
abbrev main_v159 : Ref sig .tc := ⟨.hbm, 242, rfl⟩
abbrev main_c_50 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_c_51 : Ref sig .tc := ⟨.hbm, 247, rfl⟩
abbrev main_v163 : Ref sig .tc := ⟨.hbm, 248, rfl⟩
abbrev main_v164 : Ref sig .tc := ⟨.hbm, 249, rfl⟩
abbrev main_c_52 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_c_53 : Ref sig .tc := ⟨.hbm, 254, rfl⟩
abbrev main_v168 : Ref sig .tc := ⟨.hbm, 255, rfl⟩
abbrev main_v169 : Ref sig .tc := ⟨.hbm, 256, rfl⟩
abbrev main_c_54 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_cst_55 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_c_56 : Ref sig .tc := ⟨.hbm, 275, rfl⟩
abbrev main_v186 : Ref sig .tc := ⟨.hbm, 276, rfl⟩
abbrev main_v187 : Ref sig .tc := ⟨.hbm, 277, rfl⟩
abbrev main_c_57 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_c_58 : Ref sig .tc := ⟨.hbm, 282, rfl⟩
abbrev main_v191 : Ref sig .tc := ⟨.hbm, 283, rfl⟩
abbrev main_v192 : Ref sig .tc := ⟨.hbm, 284, rfl⟩
abbrev main_c_59 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_c_60 : Ref sig .tc := ⟨.hbm, 289, rfl⟩
abbrev main_v196 : Ref sig .tc := ⟨.hbm, 290, rfl⟩
abbrev main_v197 : Ref sig .tc := ⟨.hbm, 291, rfl⟩
abbrev main_c_61 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_c_62 : Ref sig .tc := ⟨.hbm, 296, rfl⟩
abbrev main_v201 : Ref sig .tc := ⟨.hbm, 297, rfl⟩
abbrev main_v202 : Ref sig .tc := ⟨.hbm, 298, rfl⟩
abbrev main_c_63 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_cst_64 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_c_65 : Ref sig .tc := ⟨.hbm, 317, rfl⟩
abbrev main_v219 : Ref sig .tc := ⟨.hbm, 318, rfl⟩
abbrev main_v220 : Ref sig .tc := ⟨.hbm, 319, rfl⟩
abbrev main_c_66 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_c_67 : Ref sig .tc := ⟨.hbm, 324, rfl⟩
abbrev main_v224 : Ref sig .tc := ⟨.hbm, 325, rfl⟩
abbrev main_v225 : Ref sig .tc := ⟨.hbm, 326, rfl⟩
abbrev main_c_68 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_c_69 : Ref sig .tc := ⟨.hbm, 331, rfl⟩
abbrev main_v229 : Ref sig .tc := ⟨.hbm, 332, rfl⟩
abbrev main_v230 : Ref sig .tc := ⟨.hbm, 333, rfl⟩
abbrev main_c_70 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_c_71 : Ref sig .tc := ⟨.hbm, 338, rfl⟩
abbrev main_v234 : Ref sig .tc := ⟨.hbm, 339, rfl⟩
abbrev main_v235 : Ref sig .tc := ⟨.hbm, 340, rfl⟩
abbrev main_c_72 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_cst_73 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_c_74 : Ref sig .tc := ⟨.hbm, 359, rfl⟩
abbrev main_v252 : Ref sig .tc := ⟨.hbm, 360, rfl⟩
abbrev main_v253 : Ref sig .tc := ⟨.hbm, 361, rfl⟩
abbrev main_c_75 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_c_76 : Ref sig .tc := ⟨.hbm, 366, rfl⟩
abbrev main_v257 : Ref sig .tc := ⟨.hbm, 367, rfl⟩
abbrev main_v258 : Ref sig .tc := ⟨.hbm, 368, rfl⟩
abbrev main_c_77 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_c_78 : Ref sig .tc := ⟨.hbm, 373, rfl⟩
abbrev main_v262 : Ref sig .tc := ⟨.hbm, 374, rfl⟩
abbrev main_v263 : Ref sig .tc := ⟨.hbm, 375, rfl⟩
abbrev main_c_79 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_c_80 : Ref sig .tc := ⟨.hbm, 380, rfl⟩
abbrev main_v267 : Ref sig .tc := ⟨.hbm, 381, rfl⟩
abbrev main_v268 : Ref sig .tc := ⟨.hbm, 382, rfl⟩
abbrev main_c_81 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_cst_82 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_c_83 : Ref sig .tc := ⟨.hbm, 401, rfl⟩
abbrev main_v285 : Ref sig .tc := ⟨.hbm, 402, rfl⟩
abbrev main_v286 : Ref sig .tc := ⟨.hbm, 403, rfl⟩
abbrev main_c_84 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_c_85 : Ref sig .tc := ⟨.hbm, 408, rfl⟩
abbrev main_v290 : Ref sig .tc := ⟨.hbm, 409, rfl⟩
abbrev main_v291 : Ref sig .tc := ⟨.hbm, 410, rfl⟩
abbrev main_c_86 : Ref sig .tc := ⟨.hbm, 411, rfl⟩
abbrev main_v292 : Ref sig .tc := ⟨.hbm, 412, rfl⟩
abbrev main_v293 : Ref sig .tc := ⟨.hbm, 413, rfl⟩
abbrev main_v294 : Ref sig .tc := ⟨.hbm, 414, rfl⟩
abbrev main_c_87 : Ref sig .tc := ⟨.hbm, 415, rfl⟩
abbrev main_v295 : Ref sig .tc := ⟨.hbm, 416, rfl⟩
abbrev main_v296 : Ref sig .tc := ⟨.hbm, 417, rfl⟩
abbrev main_c_88 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_c_89 : Ref sig .tc := ⟨.hbm, 422, rfl⟩
abbrev main_v300 : Ref sig .tc := ⟨.hbm, 423, rfl⟩
abbrev main_v301 : Ref sig .tc := ⟨.hbm, 424, rfl⟩
abbrev main_c_90 : Ref sig .tc := ⟨.hbm, 425, rfl⟩
abbrev main_v302 : Ref sig .tc := ⟨.hbm, 426, rfl⟩
abbrev main_v303 : Ref sig .tc := ⟨.hbm, 427, rfl⟩
abbrev main_v304 : Ref sig .tc := ⟨.hbm, 428, rfl⟩
abbrev main_v305 : Ref sig .tc := ⟨.hbm, 429, rfl⟩
abbrev main_v306 : Ref sig .tc := ⟨.hbm, 430, rfl⟩
abbrev main_v307 : Ref sig .tc := ⟨.hbm, 431, rfl⟩
abbrev main_v308 : Ref sig .tc := ⟨.hbm, 432, rfl⟩
abbrev main_v309 : Ref sig .tc := ⟨.hbm, 433, rfl⟩
abbrev main_v310 : Ref sig .tc := ⟨.hbm, 434, rfl⟩
abbrev main_cst_91 : Ref sig .tc := ⟨.hbm, 435, rfl⟩
abbrev main_v311 : Ref sig .tc := ⟨.hbm, 436, rfl⟩
abbrev main_v312 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩

abbrev nD : Nat := 1
abbrev τ : Topo := Topo.v7x

variable {F : FTy → Type} [FloatOps F]
-- ==== Proof.Weights.lean ====
/- The interpolation weights as real numbers.

   Every table of this problem — the reference's 96 coordinates, the kernel's two 96 × 16 weight matrices — is a list of f32
   words, and every one of those words denotes a non-negative multiple of `2 ^ -46`. This module reads such a word as that
   whole multiple, names for each output position `i` the lattice cell its coordinate lies in and the coordinate's place inside
   the cell, and states what the kernel's tables hold in those terms. -/
module

public import proofs.«01_k».proof.KernelIdeal
public import proofs.«01_k».proof.ReferenceIdeal
public import Idealize.ShloMosaic.PureOps.Ideal

@[expose] public section

noncomputable section

namespace Cert.Proof

open Idealize.ShloMosaic

/-- The unit in which weights are counted: `2 ^ 46` of them make one. -/
abbrev scale : ℕ := 70368744177664

/-- The number of units a plain word denotes: zero for the zero word, and the significand shifted by the exponent otherwise. -/
def units (b : BitVec 32) : ℕ :=
  if b.toNat = 0 then 0 else (8388608 + b.toNat % 8388608) * 2 ^ (b.toNat / 8388608 - 104)

/-- A plain word: the zero word, or a positive normal number that is a whole number of units. -/
def IsPlain (b : BitVec 32) : Prop := b.toNat = 0 ∨ (104 ≤ b.toNat / 8388608 ∧ b.toNat / 8388608 ≤ 254)

instance (b : BitVec 32) : Decidable (IsPlain b) := inferInstanceAs (Decidable (_ ∨ _))

/-- A plain word denotes its number of units. -/
theorem ofBits_plain (b : BitVec 32) (h : IsPlain b) :
    Ideal.ofBits .f32 b = (((units b : ℝ) / (scale : ℝ) : ℝ) : EReal) := by
  have e1 : (b.extractLsb' 31 1 == 1#1) = decide (b.toNat / 2147483648 % 2 = 1) := by
    rw [Bool.eq_iff_iff, beq_iff_eq, decide_eq_true_iff, ← BitVec.toNat_inj, BitVec.extractLsb'_toNat, Nat.shiftRight_eq_div_pow]
    simp
  have e2 : (b.extractLsb' 23 8).toNat = b.toNat / 8388608 % 256 := by
    rw [BitVec.extractLsb'_toNat, Nat.shiftRight_eq_div_pow]
  have e3 : (b.extractLsb' 0 23).toNat = b.toNat % 8388608 := by
    rw [BitVec.extractLsb'_toNat, Nat.shiftRight_eq_div_pow, pow_zero, Nat.div_one]
  show Ideal.ieee 8 23 b = _
  unfold Ideal.ieee
  simp only [Nat.reduceAdd]
  rw [e1, e2, e3]
  rcases h with h | ⟨h1, h2⟩
  · simp [h, units]
  · have hs : ¬ (b.toNat / 2147483648 % 2 = 1) := by omega
    have hm : b.toNat / 8388608 % 256 = b.toNat / 8388608 := by omega
    have h0 : b.toNat ≠ 0 := by omega
    rw [hm]
    have hne : ¬ (b.toNat / 8388608 = 2 ^ 8 - 1) := by omega
    have hnz : ¬ (b.toNat / 8388608 = 0) := by omega
    rw [if_neg hne, if_neg hnz]
    obtain ⟨e, he⟩ : ∃ e, b.toNat / 8388608 = 104 + e := ⟨_, (Nat.add_sub_cancel' h1).symm⟩
    have hz : (2 : ℝ) ^ (((104 + e : ℕ) : ℤ) - (2 ^ (8 - 1) - 1) - (23 : ℕ)) = 2 ^ e / (scale : ℝ) := by
      have : (((104 + e : ℕ) : ℤ) - (2 ^ (8 - 1) - 1) - (23 : ℕ)) = (e : ℤ) - 46 := by push_cast; omega
      rw [this, zpow_sub₀ (by norm_num), zpow_natCast]
      norm_num
    rw [he, hz]
    unfold units
    rw [if_neg h0, he, Nat.add_sub_cancel_left]
    simp only [hs, decide_false, Bool.false_eq_true, if_false]
    refine congrArg Real.toEReal ?_
    push_cast
    ring

/-- The word of the reference's coordinate at output position `i`. -/
abbrev coordWord (i : Fin 96) : BitVec 32 := Cert.ReferenceIdeal.lit0 i

/-- The lattice cell that coordinate lies in. -/
def cell (i : Fin 96) : ℕ := units (coordWord i) / scale

/-- The coordinate's place inside its cell, in units. -/
def place (i : Fin 96) : ℕ := units (coordWord i) % scale

set_option maxRecDepth 100000 in
/-- Every coordinate is plain, and its cell has a lattice point on either side. -/
theorem coord_facts : ∀ i : Fin 96, IsPlain (coordWord i) ∧ 1 ≤ cell i ∧ cell i ≤ 14 := by
  decide +kernel

/-- The cell's lower lattice point, as an index. -/
def below (i : Fin 96) : Fin 16 := ⟨cell i, by have := (coord_facts i).2.2; omega⟩

/-- The cell's upper lattice point, as an index. -/
def above (i : Fin 96) : Fin 16 := ⟨cell i + 1, by have := (coord_facts i).2.2; omega⟩

/-- The two lattice points of a cell differ. -/
theorem below_ne_above (i : Fin 96) : below i ≠ above i := by
  intro h; have := congrArg Fin.val h; simp [below, above] at this

set_option maxRecDepth 100000 in
/-- Row `i` of the kernel's weight matrix: the upper point's weight is the place inside the cell, the lower one's what is left of
    the unit, and every other weight is zero. -/
theorem matrix_units : ∀ (i : Fin 96) (k : Fin 16),
    IsPlain (Cert.KernelIdeal.lit1 ⟨16 * i.val + k.val, by omega⟩)
    ∧ units (Cert.KernelIdeal.lit1 ⟨16 * i.val + k.val, by omega⟩)
      = if k = below i then scale - place i else if k = above i then place i else 0 := by
  decide +kernel

set_option maxRecDepth 100000 in
/-- The transposed matrix holds the matrix's words. -/
theorem transposed_words : ∀ (i : Fin 96) (k : Fin 16),
    Cert.KernelIdeal.lit0 ⟨96 * k.val + i.val, by omega⟩ = Cert.KernelIdeal.lit1 ⟨16 * i.val + k.val, by omega⟩ := by
  decide +kernel

/-- The upper lattice point's weight at position `i`. -/
def hi (i : Fin 96) : ℝ := (place i : ℝ) / (scale : ℝ)

/-- The lower lattice point's weight at position `i`. -/
def lo (i : Fin 96) : ℝ := 1 - hi i

theorem place_lt (i : Fin 96) : place i < scale := Nat.mod_lt _ (by norm_num)

theorem hi_nonneg (i : Fin 96) : 0 ≤ hi i := by unfold hi; positivity

theorem hi_lt_one (i : Fin 96) : hi i < 1 := by
  unfold hi
  rw [div_lt_one (by norm_num)]
  exact_mod_cast place_lt i

theorem lo_nonneg (i : Fin 96) : 0 ≤ lo i := by have := hi_lt_one i; unfold lo; linarith

/-- The coordinate at position `i` is its cell plus the upper weight. -/
theorem ofBits_coord (i : Fin 96) : Ideal.ofBits .f32 (coordWord i) = (((cell i : ℝ) + hi i : ℝ) : EReal) := by
  rw [ofBits_plain _ (coord_facts i).1]
  congr 1
  have h : units (coordWord i) = scale * cell i + place i := (Nat.div_add_mod _ _).symm
  unfold hi
  rw [h]
  push_cast
  field_simp

/-- The floor of the coordinate is its cell. -/
theorem floor_coord (i : Fin 96) : ⌊(cell i : ℝ) + hi i⌋ = (cell i : ℤ) := by
  rw [Int.floor_eq_iff]
  have h0 := hi_nonneg i
  have h1 := hi_lt_one i
  push_cast
  constructor <;> linarith

/-- Entry `(i, k)` of the kernel's weight matrix, as a real number. -/
def weight (i : Fin 96) (k : Fin 16) : ℝ := if k = below i then lo i else if k = above i then hi i else 0

/-- The matrix's words denote those weights. -/
theorem ofBits_matrix (i : Fin 96) (k : Fin 16) (h : 16 * i.val + k.val < 1536) :
    Ideal.ofBits .f32 (Cert.KernelIdeal.lit1 ⟨16 * i.val + k.val, h⟩) = ((weight i k : ℝ) : EReal) := by
  obtain ⟨h1, h2⟩ := matrix_units i k
  rw [ofBits_plain _ h1, h2]
  congr 1
  have hp : place i ≤ scale := (place_lt i).le
  unfold weight lo hi
  split
  · rw [Nat.cast_sub hp, sub_div, div_self (by norm_num)]
  · split
    · rfl
    · simp

/-- The transposed matrix's words denote the same weights. -/
theorem ofBits_transposed (i : Fin 96) (k : Fin 16) (h : 96 * k.val + i.val < 1536) :
    Ideal.ofBits .f32 (Cert.KernelIdeal.lit0 ⟨96 * k.val + i.val, h⟩) = ((weight i k : ℝ) : EReal) := by
  rw [transposed_words i k]
  exact ofBits_matrix i k _

end Cert.Proof

end
-- ==== Proof.Coords.lean ====
/- The reference's coordinates, cell indices and weights, read at an output position.

   The reference lays the three coordinate axes out as an array [2, 96, 96, 96, 3], takes each component back out of it, and
   computes from it the two lattice indices and the two weights along that axis. The three axes go through the same
   operations, so each is stated once, for any array whose entry at the position is the coordinate of some `i`. -/
module

public import proofs.«01_k».proof.Proof.Weights
public import proofs.«01_k».proof.Proof.Gen.ReferenceIdeal.Run
public import Idealize.ShloMosaic.Lib.Pointwise

@[expose] public section

noncomputable section

namespace Cert.Proof

open Idealize.ShloMosaic Cert.ReferenceIdeal Cert.ReferenceIdeal.Gen Cert.ReferenceIdeal.Value

/-! ## The coordinate array -/

/-- The index of the ten-axis array that the tiling passes through, by its axes that are longer than one. -/
def tenAxes (p : Fin 2) (x y z : Fin 96) (d : Fin 3) : S2x1x1x96x1x96x1x96x1x3.Idx := fun a => match a with
  | ⟨0, _⟩ => p
  | ⟨1, _⟩ => (0 : Fin 1)
  | ⟨2, _⟩ => (0 : Fin 1)
  | ⟨3, _⟩ => x
  | ⟨4, _⟩ => (0 : Fin 1)
  | ⟨5, _⟩ => y
  | ⟨6, _⟩ => (0 : Fin 1)
  | ⟨7, _⟩ => z
  | ⟨8, _⟩ => (0 : Fin 1)
  | ⟨9, _⟩ => d

/-- The same index before the copies along the first axis are made. -/
def tenAxesOnce (x y z : Fin 96) (d : Fin 3) : S1x1x1x96x1x96x1x96x1x3.Idx := fun a => match a with
  | ⟨0, _⟩ => (0 : Fin 1)
  | ⟨1, _⟩ => (0 : Fin 1)
  | ⟨2, _⟩ => (0 : Fin 1)
  | ⟨3, _⟩ => x
  | ⟨4, _⟩ => (0 : Fin 1)
  | ⟨5, _⟩ => y
  | ⟨6, _⟩ => (0 : Fin 1)
  | ⟨7, _⟩ => z
  | ⟨8, _⟩ => (0 : Fin 1)
  | ⟨9, _⟩ => d

/-- Merging the ten axes into five keeps the long ones. -/
theorem cast_from_ten {α : Type} (v : S2x1x1x96x1x96x1x96x1x3.Idx → α) (h) (p : Fin 2) (x y z : Fin 96) (d : Fin 3) :
    shapeCast S2x96x96x96x3 v h (ix5 p x y z d) = v (tenAxes p x y z d) := by
  refine congrArg v (Shape.reshapeEquiv_eq_of_rowMajor _ ?_)
  rw [rowMajor_val5 _ 2654208 27648 288 3 rfl rfl rfl rfl]
  show (Shape.rowMajorPi _ _).val = _
  simp [Shape.rowMajorPi_succ_val, Fin.prod_univ_succ, Shape.rowMajorPi_fin0_val]
  show p.val * 2654208 + (0 * 2654208 + (0 * 2654208 + (x.val * 27648 + (0 * 27648 + (y.val * 288 + (0 * 288
    + (z.val * 3 + (0 * 3 + d.val)))))))) = _
  omega

/-- Splitting five axes into ten keeps the long ones. -/
theorem cast_to_ten {α : Type} (v : S1x96x96x96x3.Idx → α) (h) (x y z : Fin 96) (d : Fin 3) :
    shapeCast S1x1x1x96x1x96x1x96x1x3 v h (tenAxesOnce x y z d) = v (ix5 0 x y z d) := by
  refine congrArg v (Shape.reshapeEquiv_eq_of_rowMajor _ ?_)
  rw [rowMajor_val5 _ 2654208 27648 288 3 rfl rfl rfl rfl]
  show _ = (Shape.rowMajorPi _ _).val
  simp [Shape.rowMajorPi_succ_val, Fin.prod_univ_succ, Shape.rowMajorPi_fin0_val]
  show _ = 0 * 2654208 + (0 * 2654208 + (0 * 2654208 + (x.val * 27648 + (0 * 27648 + (y.val * 288 + (0 * 288
    + (z.val * 3 + (0 * 3 + d.val))))))))
  omega

/-- The reference's tiling of a [96, 96, 96, 3] array over the batch. -/
def tiled {α : Type} (v : S96x96x96x3.Idx → α) : S2x96x96x96x3.Idx → α :=
  shapeCast S2x96x96x96x3 (broadcastInDim S2x1x1x96x1x96x1x96x1x3 ![0, 1, 2, 3, 4, 5, 6, 7, 8, 9]
    bcast_S1x1x1x96x1x96x1x96x1x3_S2x1x1x96x1x96x1x96x1x3_0_1_2_3_4_5_6_7_8_9
    (shapeCast S1x1x1x96x1x96x1x96x1x3
      (broadcastInDim S1x96x96x96x3 ![1, 2, 3, 4] bcast_S96x96x96x3_S1x96x96x96x3_1_2_3_4 v)
      shapeCasts_S1x96x96x96x3_S1x1x1x96x1x96x1x96x1x3))
    shapeCasts_S2x1x1x96x1x96x1x96x1x3_S2x96x96x96x3

/-- Every batch member of the tiling is the array itself. -/
theorem tiled_apply {α : Type} (v : S96x96x96x3.Idx → α) (p : Fin 2) (x y z : Fin 96) (d : Fin 3) :
    tiled v (ix5 p x y z d) = v (ix4 x y z d) := by
  have copies : ∀ w : S1x1x1x96x1x96x1x96x1x3.Idx → α,
      broadcastInDim S2x1x1x96x1x96x1x96x1x3 ![0, 1, 2, 3, 4, 5, 6, 7, 8, 9]
        bcast_S1x1x1x96x1x96x1x96x1x3_S2x1x1x96x1x96x1x96x1x3_0_1_2_3_4_5_6_7_8_9 w (tenAxes p x y z d)
        = w (tenAxesOnce x y z d) := fun w => by
    refine congrArg w (funext fun a => ?_)
    fin_cases a <;> rfl
  have lead : broadcastInDim S1x96x96x96x3 ![1, 2, 3, 4] bcast_S96x96x96x3_S1x96x96x96x3_1_2_3_4 v (ix5 0 x y z d)
      = v (ix4 x y z d) := by
    pointwise
  unfold tiled
  rw [cast_from_ten, copies, cast_to_ten, lead]

/-- The stack of three [96, 96, 96, 1] arrays along the last axis. -/
def stacked {α : Type} (u0 u1 u2 : S96x96x96x1.Idx → α) : S96x96x96x3.Idx → α :=
  concatenate S96x96x96x3 3 [⟨S96x96x96x1, u0⟩, ⟨S96x96x96x1, u1⟩, ⟨S96x96x96x1, u2⟩]
    concatenates_S96x96x96x1_S96x96x96x1_S96x96x96x1_S96x96x96x3_d3

theorem stacked_0 {α : Type} (u0 u1 u2 : S96x96x96x1.Idx → α) (x y z : Fin 96) :
    stacked u0 u1 u2 (ix4 x y z 0) = u0 (ix4 x y z 0) := by
  pointwise [stacked]

theorem stacked_1 {α : Type} (u0 u1 u2 : S96x96x96x1.Idx → α) (x y z : Fin 96) :
    stacked u0 u1 u2 (ix4 x y z 1) = u1 (ix4 x y z 0) := by
  pointwise [stacked]

theorem stacked_2 {α : Type} (u0 u1 u2 : S96x96x96x1.Idx → α) (x y z : Fin 96) :
    stacked u0 u1 u2 (ix4 x y z 2) = u2 (ix4 x y z 0) := by
  pointwise [stacked]

/-- One member of the mesh grid: a vector laid along axis `a` of the cube, with a last axis of length one. -/
def laid {α : Type} (a : Fin 3) (h : S96.BroadcastsInDim S96x96x96 ![a]) (v : S96.Idx → α) : S96x96x96x1.Idx → α :=
  broadcastInDim S96x96x96x1 ![0, 1, 2] bcast_S96x96x96_S96x96x96x1_0_1_2 (broadcastInDim S96x96x96 ![a] h v)

theorem laid_0 {α : Type} (v : S96.Idx → α) (h) (x y z : Fin 96) : laid 0 h v (ix4 x y z 0) = v (ix1 x) := by
  pointwise [laid]

theorem laid_1 {α : Type} (v : S96.Idx → α) (h) (x y z : Fin 96) : laid 1 h v (ix4 x y z 0) = v (ix1 y) := by
  pointwise [laid]

theorem laid_2 {α : Type} (v : S96.Idx → α) (h) (x y z : Fin 96) : laid 2 h v (ix4 x y z 0) = v (ix1 z) := by
  pointwise [laid]

/-- The reference's three coordinate tables hold the same words. -/
theorem tables_eq : (lit1 = lit0) ∧ (lit2 = lit0) :=
  ⟨funext (by decide +kernel), funext (by decide +kernel)⟩

/-- A coordinate table as an array of extended reals. -/
def axisTable (t : Fin 96 → BitVec 32) : S96.Idx → EReal := fun i => Ideal.ofBits .f32 (t (S96.rowMajor i))

theorem axisTable_apply (t : Fin 96 → BitVec 32) (i : Fin 96) : axisTable t (ix1 i) = Ideal.ofBits .f32 (t i) := by
  have e : S96.rowMajor (ix1 i) = i := Fin.ext (rowMajor_val1 (ix1 i))
  unfold axisTable
  rw [e]

variable (V0 : Valuation τ sig (Elt Ideal))

/-- The reference's coordinate array is the tiling of the three laid tables. -/
theorem coords_eq : (res_main_v10 V0 : S2x96x96x96x3.Idx → EReal)
    = tiled (stacked (laid 0 bcast_S96_S96x96x96_0 (axisTable lit0)) (laid 1 bcast_S96_S96x96x96_1 (axisTable lit1))
        (laid 2 bcast_S96_S96x96x96_2 (axisTable lit2))) := rfl

/-- Taking component `d` out of a coordinate array. -/
theorem component {α : Type} (v : S2x96x96x96x3.Idx → α) (d : Fin 3)
    (h1 : S2x96x96x96x3.Slices ![0, 0, 0, 0, d.val] S2x96x96x96x1) (h2) (p : Fin 2) (x y z : Fin 96) :
    shapeCast S2x96x96x96 (extractStridedSlice S2x96x96x96x1 ![0, 0, 0, 0, d.val] v h1) h2 (ix4 p x y z)
      = v (ix5 p x y z d) := by
  rw [shapeCast_apply _ _ (ix4 p x y z) (ix5 p x y z (0 : Fin 1)) (by
    rw [rowMajor_val5 _ 884736 9216 96 1 rfl rfl rfl rfl, rowMajor_val4 _ 884736 9216 96 rfl rfl rfl]; simp [ix5, ix4])]
  refine congrArg v (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _
  | ⟨4, _⟩ => rfl

/-- The reference's coordinate along x, y and z, as an array. -/
def coordX : S2x96x96x96.Idx → EReal := res_main_v12 V0
def coordY : S2x96x96x96.Idx → EReal := res_main_v14 V0
def coordZ : S2x96x96x96.Idx → EReal := res_main_v16 V0

theorem coordX_apply (p : Fin 2) (x y z : Fin 96) : coordX V0 (ix4 p x y z) = Ideal.ofBits .f32 (coordWord x) := by
  refine (component (res_main_v10 V0 : S2x96x96x96x3.Idx → EReal) 0 slices_S2x96x96x96x3_S2x96x96x96x1_0_0_0_0_0
    shapeCasts_S2x96x96x96x1_S2x96x96x96 p x y z).trans ?_
  rw [coords_eq, tiled_apply, stacked_0, laid_0, axisTable_apply]

theorem coordY_apply (p : Fin 2) (x y z : Fin 96) : coordY V0 (ix4 p x y z) = Ideal.ofBits .f32 (coordWord y) := by
  refine (component (res_main_v10 V0 : S2x96x96x96x3.Idx → EReal) 1 slices_S2x96x96x96x3_S2x96x96x96x1_0_0_0_0_1
    shapeCasts_S2x96x96x96x1_S2x96x96x96 p x y z).trans ?_
  rw [coords_eq, tiled_apply, stacked_1, laid_1, axisTable_apply, tables_eq.1]

theorem coordZ_apply (p : Fin 2) (x y z : Fin 96) : coordZ V0 (ix4 p x y z) = Ideal.ofBits .f32 (coordWord z) := by
  refine (component (res_main_v10 V0 : S2x96x96x96x3.Idx → EReal) 2 slices_S2x96x96x96x3_S2x96x96x96x1_0_0_0_0_2
    shapeCasts_S2x96x96x96x1_S2x96x96x96 p x y z).trans ?_
  rw [coords_eq, tiled_apply, stacked_2, laid_2, axisTable_apply, tables_eq.2]

/-! ## Indices and weights from a coordinate -/

/-- A natural number as a clipped lattice index: converted toward zero and clamped to 0 … 15 it is itself, as a word. -/
theorem clip_nat (n : ℕ) (hn : n < 16) :
    IntOp.minsi 15#32 (IntOp.maxsi 0#32 (Ideal.fptosi 32 (((n : ℝ) : ℝ) : EReal))) = BitVec.ofNat 32 n := by
  have h : Ideal.toIntClamped (-(2 ^ (32 - 1) : ℕ)) ((2 ^ (32 - 1) : ℕ) - 1) (((n : ℝ) : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    push_cast
    omega
  unfold Ideal.fptosi
  rw [h]
  interval_cases n <;> decide

/-- The index of the lattice point below a coordinate: its floor, clipped. -/
def lowIdx (c : S2x96x96x96.Idx → EReal) : IVec S2x96x96x96 32 :=
  minsi (broadcastInDim S2x96x96x96 ![] bcast_S_S2x96x96x96 (id (constantI S_ 32 15#32)))
    (maxsi (broadcastInDim S2x96x96x96 ![] bcast_S_S2x96x96x96 (id (constantI S_ 32 0#32)))
      (fptosi 32 (Host.floor (φ := .f32) (F := Ideal) c)))

/-- The index of the lattice point above it: its floor plus one, clipped. -/
def highIdx (c : S2x96x96x96.Idx → EReal) : IVec S2x96x96x96 32 :=
  minsi (broadcastInDim S2x96x96x96 ![] bcast_S_S2x96x96x96 (id (constantI S_ 32 15#32)))
    (maxsi (broadcastInDim S2x96x96x96 ![] bcast_S_S2x96x96x96 (id (constantI S_ 32 0#32)))
      (fptosi 32 (addf (Host.floor (φ := .f32) (F := Ideal) c)
        (broadcastInDim S2x96x96x96 ![] bcast_S_S2x96x96x96 (constant S_ .f32 0x3F800000#32)))))

/-- The upper weight: the coordinate less its floor, with a last axis of length one. -/
def highWt (c : S2x96x96x96.Idx → EReal) : S2x96x96x96x1.Idx → EReal :=
  broadcastInDim S2x96x96x96x1 ![0, 1, 2, 3] bcast_S2x96x96x96_S2x96x96x96x1_0_1_2_3
    (subf (φ := .f32) (F := Ideal) c (Host.floor c))

/-- The lower weight: one less the upper. -/
def lowWt (c : S2x96x96x96.Idx → EReal) : S2x96x96x96x1.Idx → EReal :=
  subf (φ := .f32) (F := Ideal) (broadcastInDim S2x96x96x96x1 ![] bcast_S_S2x96x96x96x1 (constant S_ .f32 0x3F800000#32)) (highWt c)

/-- The floor of the coordinate of `i`, over the extended reals. -/
theorem liftFloor_coord (i : Fin 96) :
    Ideal.liftRound Int.floor (Ideal.ofBits .f32 (coordWord i)) = ((cell i : ℝ) : EReal) := by
  rw [ofBits_coord]
  show (((⌊(cell i : ℝ) + hi i⌋ : ℤ) : ℝ) : EReal) = _
  rw [floor_coord, Int.cast_natCast]

section
variable {c : S2x96x96x96.Idx → EReal} {p : Fin 2} {x y z i : Fin 96} (hc : c (ix4 p x y z) = Ideal.ofBits .f32 (coordWord i))
include hc

/-- At a position whose coordinate is that of `i`, the lower index is the cell's lower lattice point, -/
theorem lowIdx_apply : lowIdx c (ix4 p x y z) = BitVec.ofNat 32 (below i).val := by
  have : lowIdx c (ix4 p x y z)
      = IntOp.minsi 15#32 (IntOp.maxsi 0#32 (Ideal.fptosi 32 (Ideal.liftRound Int.floor (c (ix4 p x y z))))) := rfl
  rw [this, hc, liftFloor_coord]
  exact clip_nat _ (below i).isLt

/-- the upper index is its upper lattice point, -/
theorem highIdx_apply : highIdx c (ix4 p x y z) = BitVec.ofNat 32 (above i).val := by
  have : highIdx c (ix4 p x y z)
      = IntOp.minsi 15#32 (IntOp.maxsi 0#32 (Ideal.fptosi 32
          (Ideal.liftRound Int.floor (c (ix4 p x y z)) + Ideal.ofBits .f32 0x3F800000#32))) := rfl
  rw [this, hc, liftFloor_coord, Ideal.ofBits_one_f32]
  have e : ((cell i : ℝ) : EReal) + 1 = (((cell i + 1 : ℕ) : ℝ) : EReal) := by
    push_cast
    rfl
  rw [e]
  exact clip_nat _ (above i).isLt

/-- the upper weight is the place inside the cell, -/
theorem highWt_apply : highWt c (ix5 p x y z 0) = ((hi i : ℝ) : EReal) := by
  have e : highWt c (ix5 p x y z 0) = c (ix4 p x y z) - Ideal.liftRound Int.floor (c (ix4 p x y z)) := by
    pointwise [highWt]
  rw [e, hc, liftFloor_coord, ofBits_coord, ← EReal.coe_sub, add_sub_cancel_left]

/-- and the lower weight is what is left of one. -/
theorem lowWt_apply : lowWt c (ix5 p x y z 0) = ((lo i : ℝ) : EReal) := by
  have e : lowWt c (ix5 p x y z 0) = Ideal.ofBits .f32 0x3F800000#32 - highWt c (ix5 p x y z 0) := rfl
  rw [e, highWt_apply hc, Ideal.ofBits_one_f32, ← EReal.coe_one, ← EReal.coe_sub]
  rfl

end

end Cert.Proof

end
-- ==== Proof.Blend.lean ====
/- The equation between the two ways of blending eight lattice values.

   A row of the weight matrix has two entries that are not zero, so a contraction with it is a blend of two values. The kernel
   blends along z, then along y, then along x; the reference multiplies the three weights of a corner and adds up the eight
   corners. The weights are finite and not negative, so they distribute over any sum of extended reals, and the two agree
   whatever the values are, infinities included. -/
module

public import proofs.«01_k».proof.Proof.Weights

@[expose] public section

noncomputable section

namespace Cert.Proof

/-- A finite weight that is not negative distributes over a sum of extended reals. -/
theorem weight_mul_add {r : ℝ} (h : 0 ≤ r) (a b : EReal) : (r : EReal) * (a + b) = r * a + r * b :=
  EReal.left_distrib_of_nonneg_of_ne_top (EReal.coe_nonneg.2 h) (EReal.coe_ne_top r) a b

/-- A sum over sixteen lattice points in which only a cell's two points count is the sum of those two terms. -/
theorem sum_cell (i : Fin 96) (g : Fin 16 → EReal) (h : ∀ k, k ≠ below i → k ≠ above i → g k = 0) :
    ∑ k, g k = g (below i) + g (above i) :=
  Finset.sum_eq_add (below i) (above i) (below_ne_above i) (fun k _ hk => h k hk.1 hk.2)
    (fun h => absurd (Finset.mem_univ _) h) (fun h => absurd (Finset.mem_univ _) h)

theorem weight_below (i : Fin 96) : weight i (below i) = lo i := if_pos rfl

theorem weight_above (i : Fin 96) : weight i (above i) = hi i :=
  (if_neg (below_ne_above i).symm).trans (if_pos rfl)

theorem weight_other (i : Fin 96) (k : Fin 16) (h1 : k ≠ below i) (h2 : k ≠ above i) : weight i k = 0 :=
  (if_neg h1).trans (if_neg h2)

/-- Contracting with row `i` of the weight matrix blends the cell's two values. -/
theorem contract_row (i : Fin 96) (g : Fin 16 → EReal) :
    ∑ k, ((weight i k : ℝ) : EReal) * g k = (lo i : EReal) * g (below i) + (hi i : EReal) * g (above i) := by
  rw [sum_cell i _ fun k h1 h2 => by rw [weight_other i k h1 h2, EReal.coe_zero, zero_mul], weight_below, weight_above]

/-- The same contraction with the factors in the other order. -/
theorem contract_row_right (i : Fin 96) (g : Fin 16 → EReal) :
    ∑ k, g k * ((weight i k : ℝ) : EReal) = (lo i : EReal) * g (below i) + (hi i : EReal) * g (above i) := by
  rw [← contract_row]
  exact Finset.sum_congr rfl fun k _ => mul_comm _ _

/-- One slab of the kernel at row `y` and column `z`: plane `n` of the field contracted along z, then along y. -/
def slabVal (f : Fin 16 → Fin 16 → Fin 16 → EReal) (n : Fin 16) (y z : Fin 96) : EReal :=
  ∑ j, ((weight y j : ℝ) : EReal) * ∑ k, f n j k * ((weight z k : ℝ) : EReal)

/-- The kernel's value at `(x, y, z)`: the two slabs of `x`'s cell, blended. -/
def separable (f : Fin 16 → Fin 16 → Fin 16 → EReal) (x y z : Fin 96) : EReal :=
  (lo x : EReal) * slabVal f (below x) y z + (hi x : EReal) * slabVal f (above x) y z

/-- The reference's term of one corner: the product of three weights, from one, times the field there. -/
def corner (f : Fin 16 → Fin 16 → Fin 16 → EReal) (u v w : ℝ) (i j k : Fin 16) : EReal :=
  (1 * (u : EReal) * (v : EReal) * (w : EReal)) * f i j k

/-- The reference's value at `(x, y, z)`: the eight corners of the cell added up in order, from zero. -/
def eightCorners (f : Fin 16 → Fin 16 → Fin 16 → EReal) (x y z : Fin 96) : EReal :=
  0 + corner f (lo x) (lo y) (lo z) (below x) (below y) (below z)
    + corner f (lo x) (lo y) (hi z) (below x) (below y) (above z)
    + corner f (lo x) (hi y) (lo z) (below x) (above y) (below z)
    + corner f (lo x) (hi y) (hi z) (below x) (above y) (above z)
    + corner f (hi x) (lo y) (lo z) (above x) (below y) (below z)
    + corner f (hi x) (lo y) (hi z) (above x) (below y) (above z)
    + corner f (hi x) (hi y) (lo z) (above x) (above y) (below z)
    + corner f (hi x) (hi y) (hi z) (above x) (above y) (above z)

/-- The two values are equal at every field of extended reals. -/
theorem separable_eq_eightCorners (f : Fin 16 → Fin 16 → Fin 16 → EReal) (x y z : Fin 96) :
    separable f x y z = eightCorners f x y z := by
  unfold separable slabVal eightCorners corner
  simp only [contract_row, contract_row_right]
  simp only [weight_mul_add (lo_nonneg x), weight_mul_add (hi_nonneg x), weight_mul_add (lo_nonneg y),
    weight_mul_add (hi_nonneg y), zero_add, one_mul, mul_assoc, add_assoc]

end Cert.Proof

end
-- ==== Proof.Corners.lean ====
/- The reference's result at a position: the sum of the eight corners of the position's cell, each weighted by the product of
   its three one-axis weights. Every corner goes through the same operations, so one lemma reads them all. -/
module

public import proofs.«01_k».proof.Proof.Coords
public import proofs.«01_k».proof.Proof.Blend
public import Idealize.ShloMosaic.Lib.Routing.OpsPair
public import Idealize.ShloMosaic.Lib.StableHlo.Predicate

@[expose] public section

noncomputable section

namespace Cert.Proof

open Idealize.ShloMosaic Cert.ReferenceIdeal Cert.ReferenceIdeal.Gen Cert.ReferenceIdeal.Value

/-- The start index the gather reads for its result's element is that element's position with the component asked for. -/
theorem gather_start (p : Fin 2) (x y z : Fin 96) (c : Fin 3) (k : Fin 4) :
    gather_S2x16x16x16x3_S2x96x96x96x4_S2x96x96x96x3_4_0123_n_n_0123_4_11113.siIdx (ix5 p x y z c) k = ix5 p x y z k := by
  funext b
  match b with
  | ⟨0, _⟩ => rfl
  | ⟨1, _⟩ => rfl
  | ⟨2, _⟩ => rfl
  | ⟨3, _⟩ => rfl
  | ⟨4, _⟩ => rfl

/-- A gather whose four index words at a position are the words of a point of the lattice reads that point's channels. -/
theorem gather_point {α : Type} (v : S2x16x16x16x3.Idx → α) (idx : IVec S2x96x96x96x4 32) (p : Fin 2) (x y z : Fin 96)
    (c : Fin 3) (b : Fin 2) (i j k : Fin 16) (h0 : idx (ix5 p x y z 0) = BitVec.ofNat 32 b.val)
    (h1 : idx (ix5 p x y z 1) = BitVec.ofNat 32 i.val) (h2 : idx (ix5 p x y z 2) = BitVec.ofNat 32 j.val)
    (h3 : idx (ix5 p x y z 3) = BitVec.ofNat 32 k.val) :
    Host.gather gather_S2x16x16x16x3_S2x96x96x96x4_S2x96x96x96x3_4_0123_n_n_0123_4_11113 v idx (ix5 p x y z c)
      = v (ix5 b i j k c) := by
  have clamp : ∀ (n m : ℕ) (w : BitVec 32), w = BitVec.ofNat 32 n → n ≤ m → m < 16 → min w.toInt.toNat m + 0 + 0 = n := by
    intro n m w hw hn hm
    rw [hw, StableHlo.Predicate.toInt_ofNat_small n (by omega)]
    omega
  refine congrArg v (funext fun a => Fin.ext ?_)
  match a with
  | ⟨0, _⟩ => exact clamp _ 1 _ ((congrArg idx (gather_start p x y z c 0)).trans h0) (Nat.le_of_lt_succ b.isLt) (by omega)
  | ⟨1, _⟩ => exact clamp _ 15 _ ((congrArg idx (gather_start p x y z c 1)).trans h1) (Nat.le_of_lt_succ i.isLt) (by omega)
  | ⟨2, _⟩ => exact clamp _ 15 _ ((congrArg idx (gather_start p x y z c 2)).trans h2) (Nat.le_of_lt_succ j.isLt) (by omega)
  | ⟨3, _⟩ => exact clamp _ 15 _ ((congrArg idx (gather_start p x y z c 3)).trans h3) (Nat.le_of_lt_succ k.isLt) (by omega)
  | ⟨4, _⟩ => exact (Nat.zero_add _)

/-- An index array with the indices below zero counted from the end, and a last axis of length one. -/
def wrapped (n : BitVec 32) (i : IVec S2x96x96x96 32) : IVec S2x96x96x96x1 32 :=
  broadcastInDim S2x96x96x96x1 ![0, 1, 2, 3] bcast_S2x96x96x96_S2x96x96x96x1_0_1_2_3
    (select (cmpi .slt i (broadcastInDim S2x96x96x96 ![] bcast_S_S2x96x96x96 (constantI S_ 32 0#32)))
      (addi i (broadcastInDim S2x96x96x96 ![] bcast_S_S2x96x96x96 (constantI S_ 32 n))) i)

/-- An index that is not negative stays. -/
theorem wrapped_apply (n : BitVec 32) (i : IVec S2x96x96x96 32) (p : Fin 2) (x y z : Fin 96) (m : ℕ) (hm : m < 16)
    (h : i (ix4 p x y z) = BitVec.ofNat 32 m) : wrapped n i (ix5 p x y z 0) = BitVec.ofNat 32 m := by
  have e : wrapped n i (ix5 p x y z 0)
      = Scalar.select (IntOp.cmpi .slt (i (ix4 p x y z)) 0#32) (IntOp.addi (i (ix4 p x y z)) n) (i (ix4 p x y z)) := by
    pointwise [wrapped]
  rw [e, h, Routing.wrap_of_lt]
  rw [BitVec.toNat_ofNat]
  omega

/-- The four index components side by side. -/
def joined (u0 u1 u2 u3 : IVec S2x96x96x96x1 32) : IVec S2x96x96x96x4 32 :=
  concatenate S2x96x96x96x4 4 [⟨S2x96x96x96x1, u0⟩, ⟨S2x96x96x96x1, u1⟩, ⟨S2x96x96x96x1, u2⟩, ⟨S2x96x96x96x1, u3⟩]
    concatenates_S2x96x96x96x1_S2x96x96x96x1_S2x96x96x96x1_S2x96x96x96x1_S2x96x96x96x4_d4

section
variable (u0 u1 u2 u3 : IVec S2x96x96x96x1 32) (p : Fin 2) (x y z : Fin 96)

theorem joined_0 : joined u0 u1 u2 u3 (ix5 p x y z 0) = u0 (ix5 p x y z 0) := by
  pointwise [joined]

theorem joined_1 : joined u0 u1 u2 u3 (ix5 p x y z 1) = u1 (ix5 p x y z 0) := by
  pointwise [joined]

theorem joined_2 : joined u0 u1 u2 u3 (ix5 p x y z 2) = u2 (ix5 p x y z 0) := by
  pointwise [joined]

theorem joined_3 : joined u0 u1 u2 u3 (ix5 p x y z 3) = u3 (ix5 p x y z 0) := by
  pointwise [joined]

end

/-- One corner's term as the reference computes it: the weights of the three axes multiplied onto one, times the lattice
    values gathered at the three indices (and the batch index). -/
def cornerTerm (v : S2x16x16x16x3.Idx → EReal) (b ix iy iz : IVec S2x96x96x96 32) (wx wy wz : S2x96x96x96x1.Idx → EReal) :
    S2x96x96x96x3.Idx → EReal :=
  mulf (φ := .f32) (F := Ideal)
    (broadcastInDim S2x96x96x96x3 ![0, 1, 2, 3, 4] bcast_S2x96x96x96x1_S2x96x96x96x3_0_1_2_3_4
      (mulf (φ := .f32) (F := Ideal) (mulf (φ := .f32) (F := Ideal) (mulf (φ := .f32) (F := Ideal)
        (broadcastInDim S2x96x96x96x1 ![] bcast_S_S2x96x96x96x1 (constant S_ .f32 0x3F800000#32)) wx) wy) wz))
    (Host.gather gather_S2x16x16x16x3_S2x96x96x96x4_S2x96x96x96x3_4_0123_n_n_0123_4_11113 v
      (joined (wrapped 2#32 b) (wrapped 16#32 ix) (wrapped 16#32 iy) (wrapped 16#32 iz)))

/-- Where the weights are the reals `u`, `w`, `t` and the indices name the point `(i, j, k)` of batch member `p`, the corner's
    term is their product with the lattice value there. -/
theorem cornerTerm_apply (v : S2x16x16x16x3.Idx → EReal) (b ix iy iz : IVec S2x96x96x96 32)
    (wx wy wz : S2x96x96x96x1.Idx → EReal) (p : Fin 2) (x y z : Fin 96) (c : Fin 3) (i j k : Fin 16) (u w t : ℝ)
    (hb : b (ix4 p x y z) = BitVec.ofNat 32 p.val) (hi : ix (ix4 p x y z) = BitVec.ofNat 32 i.val)
    (hj : iy (ix4 p x y z) = BitVec.ofNat 32 j.val) (hk : iz (ix4 p x y z) = BitVec.ofNat 32 k.val)
    (hu : wx (ix5 p x y z 0) = (u : EReal)) (hw : wy (ix5 p x y z 0) = (w : EReal)) (ht : wz (ix5 p x y z 0) = (t : EReal)) :
    cornerTerm v b ix iy iz wx wy wz (ix5 p x y z c) = corner (fun i j k => v (ix5 p i j k c)) u w t i j k := by
  have weights : ∀ q : S2x96x96x96x1.Idx → EReal,
      broadcastInDim S2x96x96x96x3 ![0, 1, 2, 3, 4] bcast_S2x96x96x96x1_S2x96x96x96x3_0_1_2_3_4 q (ix5 p x y z c)
        = q (ix5 p x y z 0) := fun q => by
    pointwise
  have gathered := gather_point v (joined (wrapped 2#32 b) (wrapped 16#32 ix) (wrapped 16#32 iy) (wrapped 16#32 iz)) p x y z c
    p i j k ((joined_0 _ _ _ _ p x y z).trans (wrapped_apply _ _ _ _ _ _ _ (by omega) hb))
    ((joined_1 _ _ _ _ p x y z).trans (wrapped_apply _ _ _ _ _ _ _ (by omega) hi))
    ((joined_2 _ _ _ _ p x y z).trans (wrapped_apply _ _ _ _ _ _ _ (by omega) hj))
    ((joined_3 _ _ _ _ p x y z).trans (wrapped_apply _ _ _ _ _ _ _ (by omega) hk))
  refine (congrArg₂ (fun q g : EReal => q * g) (weights _) gathered).trans ?_
  show (Ideal.ofBits .f32 0x3F800000#32 * wx (ix5 p x y z 0) * wy (ix5 p x y z 0) * wz (ix5 p x y z 0))
    * v (ix5 p i j k c) = _
  rw [Ideal.ofBits_one_f32, hu, hw, ht]
  rfl

variable (V0 : Valuation τ sig (Elt Ideal))

/-- The batch index as an array. -/
def batchIdx : IVec S2x96x96x96 32 := res_main_v52 V0

theorem batchIdx_apply (p : Fin 2) (x y z : Fin 96) : batchIdx V0 (ix4 p x y z) = BitVec.ofNat 32 p.val := by
  have e : batchIdx V0 = broadcastInDim S2x96x96x96 ![0, 1, 2, 3] bcast_S2x1x1x1_S2x96x96x96_0_1_2_3
      (shapeCast S2x1x1x1 (iotaInDim S2 32 0) shapeCasts_S2_S2x1x1x1) := rfl
  rw [e]
  pointwise

/-- The lattice array the reference is given. -/
def lattice : S2x16x16x16x3.Idx → EReal := V0 (Proc.devRef .tc main_arg0)

/-- A corner of the reference, by the index and weight it takes along each axis. -/
def refCorner (ix iy iz : (S2x96x96x96.Idx → EReal) → IVec S2x96x96x96 32)
    (wx wy wz : (S2x96x96x96.Idx → EReal) → S2x96x96x96x1.Idx → EReal) : S2x96x96x96x3.Idx → EReal :=
  cornerTerm (lattice V0) (batchIdx V0) (ix (coordX V0)) (iy (coordY V0)) (iz (coordZ V0)) (wx (coordX V0)) (wy (coordY V0))
    (wz (coordZ V0))

/-- The sum of two arrays of the result's shape. -/
def plus (a b : S2x96x96x96x3.Idx → EReal) : S2x96x96x96x3.Idx → EReal := addf (φ := .f32) (F := Ideal) a b

theorem sum2 : (res_main_v119 V0 : S2x96x96x96x3.Idx → EReal)
    = plus (plus (broadcastInDim S2x96x96x96x3 ![] bcast_S_S2x96x96x96x3 (constant (F := Ideal) S_ .f32 0x00000000#32))
        (refCorner V0 lowIdx lowIdx lowIdx lowWt lowWt lowWt)) (refCorner V0 lowIdx lowIdx highIdx lowWt lowWt highWt) := rfl

theorem sum4 : (res_main_v185 V0 : S2x96x96x96x3.Idx → EReal)
    = plus (plus (res_main_v119 V0) (refCorner V0 lowIdx highIdx lowIdx lowWt highWt lowWt))
        (refCorner V0 lowIdx highIdx highIdx lowWt highWt highWt) := rfl

theorem sum6 : (res_main_v251 V0 : S2x96x96x96x3.Idx → EReal)
    = plus (plus (res_main_v185 V0) (refCorner V0 highIdx lowIdx lowIdx highWt lowWt lowWt))
        (refCorner V0 highIdx lowIdx highIdx highWt lowWt highWt) := rfl

theorem sum8 : (res_main_v317 V0 : S2x96x96x96x3.Idx → EReal)
    = plus (plus (res_main_v251 V0) (refCorner V0 highIdx highIdx lowIdx highWt highWt lowWt))
        (refCorner V0 highIdx highIdx highIdx highWt highWt highWt) := rfl

/-- The reference's result: at every position, the blend of the eight corners of its cell. -/
theorem reference_value (p : Fin 2) (x y z : Fin 96) (c : Fin 3) :
    (res_main_v317 V0 : S2x96x96x96x3.Idx → EReal) (ix5 p x y z c)
      = eightCorners (fun i j k => lattice V0 (ix5 p i j k c)) x y z := by
  have hx := coordX_apply V0 p x y z
  have hy := coordY_apply V0 p x y z
  have hz := coordZ_apply V0 p x y z
  have at_ : ∀ (ix iy iz : (S2x96x96x96.Idx → EReal) → IVec S2x96x96x96 32)
      (wx wy wz : (S2x96x96x96.Idx → EReal) → S2x96x96x96x1.Idx → EReal) (i j k : Fin 16) (u w t : ℝ)
      (_ : ix (coordX V0) (ix4 p x y z) = BitVec.ofNat 32 i.val) (_ : iy (coordY V0) (ix4 p x y z) = BitVec.ofNat 32 j.val)
      (_ : iz (coordZ V0) (ix4 p x y z) = BitVec.ofNat 32 k.val) (_ : wx (coordX V0) (ix5 p x y z 0) = (u : EReal))
      (_ : wy (coordY V0) (ix5 p x y z 0) = (w : EReal)) (_ : wz (coordZ V0) (ix5 p x y z 0) = (t : EReal)),
      refCorner V0 ix iy iz wx wy wz (ix5 p x y z c) = corner (fun i j k => lattice V0 (ix5 p i j k c)) u w t i j k :=
    fun _ _ _ _ _ _ _ _ _ _ _ _ h1 h2 h3 h4 h5 h6 =>
      cornerTerm_apply _ _ _ _ _ _ _ _ p x y z c _ _ _ _ _ _ (batchIdx_apply V0 p x y z) h1 h2 h3 h4 h5 h6
  have add : ∀ (a b : S2x96x96x96x3.Idx → EReal) (j), plus a b j = a j + b j := fun _ _ _ => rfl
  have zero : broadcastInDim S2x96x96x96x3 ![] bcast_S_S2x96x96x96x3 (constant (F := Ideal) S_ .f32 0x00000000#32) (ix5 p x y z c)
      = (0 : EReal) := Ideal.ofBits_zero_f32
  rw [sum8, add, add, sum6, add, add, sum4, add, add, sum2, add, add, zero,
    at_ _ _ _ _ _ _ _ _ _ _ _ _ (lowIdx_apply hx) (lowIdx_apply hy) (lowIdx_apply hz) (lowWt_apply hx) (lowWt_apply hy) (lowWt_apply hz),
    at_ _ _ _ _ _ _ _ _ _ _ _ _ (lowIdx_apply hx) (lowIdx_apply hy) (highIdx_apply hz) (lowWt_apply hx) (lowWt_apply hy) (highWt_apply hz),
    at_ _ _ _ _ _ _ _ _ _ _ _ _ (lowIdx_apply hx) (highIdx_apply hy) (lowIdx_apply hz) (lowWt_apply hx) (highWt_apply hy) (lowWt_apply hz),
    at_ _ _ _ _ _ _ _ _ _ _ _ _ (lowIdx_apply hx) (highIdx_apply hy) (highIdx_apply hz) (lowWt_apply hx) (highWt_apply hy) (highWt_apply hz),
    at_ _ _ _ _ _ _ _ _ _ _ _ _ (highIdx_apply hx) (lowIdx_apply hy) (lowIdx_apply hz) (highWt_apply hx) (lowWt_apply hy) (lowWt_apply hz),
    at_ _ _ _ _ _ _ _ _ _ _ _ _ (highIdx_apply hx) (lowIdx_apply hy) (highIdx_apply hz) (highWt_apply hx) (lowWt_apply hy) (highWt_apply hz),
    at_ _ _ _ _ _ _ _ _ _ _ _ _ (highIdx_apply hx) (highIdx_apply hy) (lowIdx_apply hz) (highWt_apply hx) (highWt_apply hy) (lowWt_apply hz),
    at_ _ _ _ _ _ _ _ _ _ _ _ _ (highIdx_apply hx) (highIdx_apply hy) (highIdx_apply hz) (highWt_apply hx) (highWt_apply hy) (highWt_apply hz)]
  rfl

end Cert.Proof

end
-- ==== Proof.Block.lean ====
/- What one run of the kernel's body leaves in its output block.

   The body stores sixteen slabs in its scratch buffer and then, for each of the 96 positions along x, one plane blended from
   two of them. The stores are two lists of pieces; each list is stated as one piece per slab or plane, so that one lemma
   covers all the slabs and one all the planes. -/
module

public import proofs.«01_k».proof.Proof.Blend
public import proofs.«01_k».proof.Proof.Gen.KernelIdeal.Frame
public import Idealize.ShloMosaic.Lib.Pointwise
public import Idealize.ShloMosaic.Lib.WholeRead
public import Idealize.ShloMosaic.Lib.Writes

@[expose] public section

set_option maxRecDepth 16384

noncomputable section

namespace Cert.Proof

open Idealize.ShloMosaic Idealize.ShloMosaic.Tactic Cert.KernelIdeal Cert.KernelIdeal.Gen

/-! ## The pieces -/

/-- Slab `n` of the scratch buffer is inside it, -/
theorem slab_inb (n : Fin 16) : ∀ a, (![n.val, 0, 0] : Fin 3 → ℕ) a + S1x96x96.size a ≤ S16x96x96.size a := by
  intro a
  have := n.isLt
  fin_cases a
  · show n.val + 1 ≤ 16; omega
  · show 0 + 96 ≤ 96; omega
  · show 0 + 96 ≤ 96; omega

/-- plane `x` of the output block is inside that, -/
theorem plane_inb (x : Fin 96) : ∀ a, (![0, x.val, 0, 0, 0] : Fin 5 → ℕ) a + S1x1x1x96x96.size a ≤ S1x96x1x96x96.size a := by
  intro a
  have := x.isLt
  fin_cases a
  · show 0 + 1 ≤ 1; omega
  · show x.val + 1 ≤ 96; omega
  · show 0 + 1 ≤ 1; omega
  · show 0 + 96 ≤ 96; omega
  · show 0 + 96 ≤ 96; omega

/-- and so are the sixteen rows of slab `n` among the 256. -/
theorem rows_inb (n : Fin 16) : S256x96.Slices ![16 * n.val, 0] S16x96 := by
  revert n; decide

/-- The word of a matrix entry is inside the table of 1536. -/
theorem word_lt (x : Fin 96) (n : Fin 16) : 16 * x.val + n.val < 1536 := by omega

section
variable {F : FTy → Type} [FloatOps F]

/-- What the body stores in slab `n`: the second matrix applied to the slab's rows of the first contraction. -/
def slabPay (v0 : Vec F S1x16x1x16x16 .f32) (v3 : Vec F S16x96 .f32) (v5 : Vec F S96x16 .f32) (n : Fin 16) : Vec F S1x96x96 .f32 :=
  shapeCast S1x96x96 (matmul dot_S96x16_S16x96_S96x96_1_0_0_1_n_n (some .fp32) v5
    (extractStridedSlice S16x96 ![16 * n.val, 0] (k0_pay2 v0 v3) (rows_inb n)) (constant S96x96 .f32 0x00000000#32))
    shapeCasts_S96x96_S1x96x96

/-- What the body stores in a plane: two slabs blended with two weights. -/
def planePay (w0 w1 : F .f32) (a b : Vec F S1x96x96 .f32) : Vec F S1x1x1x96x96 .f32 :=
  shapeCast S1x1x1x96x96 (addf (mulf (broadcast S96x96 w0) (shapeCast S96x96 a shapeCasts_S1x96x96_S96x96))
    (mulf (broadcast S96x96 w1) (shapeCast S96x96 b shapeCasts_S1x96x96_S96x96))) shapeCasts_S96x96_S1x1x1x96x96

omit [FloatOps F] in
/-- A load of a whole block is the block. -/
theorem load_whole {s : Shape} {e : EltTy} {r : Memref sig .tc .vmem s e} (h : r.IsWhole) (X : s.Idx → Elt F e)
    (off : Fin s.rank → ℕ) (h0 : ∀ a, off a = 0) (inb : ∀ a, off a + s.size a ≤ s.size a) :
    View.readAt (Elt F) r.view (Rect.unit (s := s) off s.size inb).toLoadRect (h.unread X) = X := by
  funext j
  refine (h.readAt_unread X _ j).trans (congrArg X (funext fun a => Fin.ext ?_))
  show off a + 1 * (j a).val = (j a).val
  rw [h0, Nat.zero_add, Nat.one_mul]

variable (c : Dev nD) (i : grid0.Coords) (arg2 : Memref sig .tc .vmem S1x16x1x16x16 .f32) (harg2 : arg2.IsWhole)
  (arg3 : Memref sig .tc .vmem S16x96 .f32) (harg3 : arg3.IsWhole) (arg4 : Memref sig .tc .vmem S96x16 .f32)
  (harg4 : arg4.IsWhole) (arg5 : Memref sig .tc .vmem S1x96x1x96x96 .f32) (harg5 : arg5.IsWhole)
  (arg6 : Memref sig .tc .vmem S16x96x96 .f32) (harg6 : arg6.IsWhole)
  (x0 : Vec F S1x16x1x16x16 .f32) (x1 : Vec F S16x96 .f32) (x2 : Vec F S96x16 .f32)

/-- The body's load of the lattice block, of the transposed matrix, and of the matrix. -/
def load0 : Vec F S1x16x1x16x16 .f32 :=
  View.readAt (Elt F) arg2.view (Rect.unit ![0, 0, 0, 0, 0] S1x16x1x16x16.size
    inb_S1x16x1x16x16_S1x16x1x16x16_0_0_0_0_0).toLoadRect (harg2.unread x0)
def load1 : Vec F S16x96 .f32 :=
  View.readAt (Elt F) arg3.view (Rect.unit ![0, 0] S16x96.size inb_S16x96_S16x96_0_0).toLoadRect (harg3.unread x1)
def load2 : Vec F S96x16 .f32 :=
  View.readAt (Elt F) arg4.view (Rect.unit ![0, 0] S96x16.size inb_S96x16_S96x16_0_0).toLoadRect (harg4.unread x2)

theorem load0_eq : load0 arg2 harg2 x0 = x0 := load_whole harg2 x0 _ (by decide) _

theorem load1_eq : load1 arg3 harg3 x1 = x1 := load_whole harg3 x1 _ (by decide) _

theorem load2_eq : load2 arg4 harg4 x2 = x2 := load_whole harg4 x2 _ (by decide) _

/-- The sixteen slab stores, last first. -/
def slabs : List (View.Piece (Elt F) S16x96x96 .f32) :=
  (List.finRange 16).reverse.map fun n => ⟨Rect.unit ![n.val, 0, 0] S1x96x96.size (slab_inb n),
    slabPay (load0 arg2 harg2 x0) (load1 arg3 harg3 x1) (load2 arg4 harg4 x2) n⟩

/-- The body's stores into its scratch buffer are these. -/
theorem slabs_eq : kernelRun0_A.sl.HS0_16 c arg2 harg2 arg3 harg3 arg4 harg4 x0 x1 x2
    = slabs arg2 harg2 arg3 harg3 arg4 harg4 x0 x1 x2 := by
  sl_kernel_rfl

/-- The body's load of slab `n`. -/
def slab (n : Fin 16) : Vec F S1x96x96 .f32 :=
  arg6.view.readCov (slabs arg2 harg2 arg3 harg3 arg4 harg4 x0 x1 x2)
    (Rect.unit (s := S16x96x96) ![n.val, 0, 0] S1x96x96.size (slab_inb n)).toLoadRect

/-- The 96 plane stores, last first: plane `x` blends the two slabs of `x`'s cell with the matrix entries of row `x` there. -/
def planes : List (View.Piece (Elt F) S1x96x1x96x96 .f32) :=
  (List.finRange 96).reverse.map fun x => ⟨Rect.unit ![0, x.val, 0, 0, 0] S1x1x1x96x96.size (plane_inb x),
    planePay (FloatOps.ofBits .f32 (lit1 ⟨16 * x.val + (below x).val, word_lt x _⟩))
      (FloatOps.ofBits .f32 (lit1 ⟨16 * x.val + (above x).val, word_lt x _⟩))
      (slab arg2 harg2 arg3 harg3 arg4 harg4 arg6 x0 x1 x2 (below x))
      (slab arg2 harg2 arg3 harg3 arg4 harg4 arg6 x0 x1 x2 (above x))⟩

/-- The body's stores into its output block are these. -/
theorem planes_eq : (kernelRun0_A c i arg2 harg2 arg3 harg3 arg4 harg4 arg5 harg5 arg6 harg6 x0 x1 x2).1
    = planes arg2 harg2 arg3 harg3 arg4 harg4 arg6 x0 x1 x2 := by
  sl_kernel_rfl

end

/-! ## Their values -/

/-- The first contraction at row `16 * n + j`: line `(n, j)` of the lattice block against column `z` of the matrix. -/
theorem lines_apply (v0 : Vec Ideal S1x16x1x16x16 .f32) (v3 : Vec Ideal S16x96 .f32) (n j : Fin 16) (z : Fin 96) :
    k0_pay2 v0 v3 (ix2 (⟨16 * n.val + j.val, by omega⟩ : Fin 256) z)
      = ∑ k : Fin 16, v0 (ix5 0 n 0 j k) * v3 (ix2 k z) := by
  pointwise [k0_pay2]

/-- Slab `n` at `(y, z)`. -/
theorem slabPay_apply (v0 : Vec Ideal S1x16x1x16x16 .f32) (v3 : Vec Ideal S16x96 .f32) (v5 : Vec Ideal S96x16 .f32) (n : Fin 16)
    (y z : Fin 96) :
    slabPay v0 v3 v5 n (ix3 0 y z) = ∑ j : Fin 16, v5 (ix2 y j) * ∑ k : Fin 16, v0 (ix5 0 n 0 j k) * v3 (ix2 k z) := by
  refine Eq.trans ?_ (Finset.sum_congr rfl fun j _ => congrArg (fun t : EReal => v5 (ix2 y j) * t) (lines_apply v0 v3 n j z))
  pointwise [slabPay]

/-- A plane at `(y, z)`. -/
theorem planePay_apply (w0 w1 : Ideal .f32) (a b : Vec Ideal S1x96x96 .f32) (y z : Fin 96) :
    planePay w0 w1 a b (ix5 0 0 0 y z) = (w0 * a (ix3 0 y z) + w1 * b (ix3 0 y z) : EReal) := by
  pointwise [planePay]

/-! ## The block -/

section
variable (c : Dev nD) (i : grid0.Coords) (arg2 : Memref sig .tc .vmem S1x16x1x16x16 .f32) (harg2 : arg2.IsWhole)
  (arg3 : Memref sig .tc .vmem S16x96 .f32) (harg3 : arg3.IsWhole) (arg4 : Memref sig .tc .vmem S96x16 .f32)
  (harg4 : arg4.IsWhole) (arg5 : Memref sig .tc .vmem S1x96x1x96x96 .f32) (harg5 : arg5.IsWhole)
  (arg6 : Memref sig .tc .vmem S16x96x96 .f32) (harg6 : arg6.IsWhole)
  (x0 : Vec Ideal S1x16x1x16x16 .f32) (x1 : Vec Ideal S16x96 .f32) (x2 : Vec Ideal S96x16 .f32)
  (h1 : ∀ (k : Fin 16) (z : Fin 96), x1 (ix2 k z) = ((weight z k : ℝ) : EReal))
  (h2 : ∀ (y : Fin 96) (j : Fin 16), x2 (ix2 y j) = ((weight y j : ℝ) : EReal))

/-- The lattice values of a block, by their three lattice indices. -/
def blockField (n j k : Fin 16) : EReal := x0 (ix5 0 n 0 j k)

/-- A rectangle's element is in it. -/
theorem emb_mem {s : Shape} (r : Rect s) (x : r.shape.Idx) : r.emb x ∈ r.set := by
  rw [← r.map_emb_univ]
  exact Finset.mem_map_of_mem _ (Finset.mem_univ x)

/-- The index of element `(y, z)` of slab `n`, as the slab's rectangle places it. -/
theorem slab_emb (n : Fin 16) (y z : Fin 96) :
    (Rect.unit (s := S16x96x96) ![n.val, 0, 0] S1x96x96.size (slab_inb n)).emb (ix3 (0 : Fin 1) y z) = ix3 n y z :=
  Rect.emb_eq_of_coords _ _ _ fun a => by
    match a with
    | ⟨0, _⟩ => show n.val = n.val + 1 * 0; omega
    | ⟨1, _⟩ => show y.val = 0 + 1 * y.val; omega
    | ⟨2, _⟩ => show z.val = 0 + 1 * z.val; omega

include h1 h2 in
/-- The body's load of slab `n` reads the slab's values. -/
theorem slab_apply (n : Fin 16) (y z : Fin 96) :
    slab arg2 harg2 arg3 harg3 arg4 harg4 arg6 x0 x1 x2 n (ix3 0 y z) = slabVal (blockField x0) n y z := by
  have pieces := View.read_writes_apply_of_pieces arg6.view (arg6.view.junk (Val := Elt Ideal))
    (fun q : S16x96x96.Idx => (slabVal (blockField x0) (q 0) (q 1) (q 2) : EReal))
    (slabs arg2 harg2 arg3 harg3 arg4 harg4 x0 x1 x2) (by
      intro p hp
      obtain ⟨k, -, rfl⟩ := List.mem_map.1 hp
      intro q
      obtain ⟨u, v, w, rfl⟩ : ∃ (u : Fin 1) (v w : Fin 96), q = ix3 u v w := ⟨q 0, q 1, q 2, by
        funext a
        match a with
        | ⟨0, _⟩ => rfl
        | ⟨1, _⟩ => rfl
        | ⟨2, _⟩ => rfl⟩
      obtain rfl : u = 0 := Subsingleton.elim _ _
      rw [slab_emb k v w]
      show slabPay (F := Ideal) _ _ _ k (ix3 0 v w) = (slabVal (blockField x0) k v w : EReal)
      rw [load0_eq, load1_eq, load2_eq, slabPay_apply]
      simp only [h1, h2]
      rfl)
    (ix3 n y z) ⟨_, List.mem_map.2 ⟨n, List.mem_reverse.2 (List.mem_finRange n), rfl⟩,
      by rw [← slab_emb n y z]; exact emb_mem _ _⟩
  refine Eq.trans ?_ pieces
  show View.read _ _ _ _ = _
  refine congrArg _ ?_
  exact slab_emb n y z

/-- The index of element `(y, z)` of plane `x`, as the plane's rectangle places it. -/
theorem plane_emb (x y z : Fin 96) :
    (Rect.unit (s := S1x96x1x96x96) ![0, x.val, 0, 0, 0] S1x1x1x96x96.size (plane_inb x)).emb (ix5 (0 : Fin 1) (0 : Fin 1) (0 : Fin 1) y z)
      = ix5 0 x 0 y z :=
  Rect.emb_eq_of_coords _ _ _ fun a => by
    match a with
    | ⟨0, _⟩ => rfl
    | ⟨1, _⟩ => show x.val = x.val + 1 * 0; omega
    | ⟨2, _⟩ => rfl
    | ⟨3, _⟩ => show y.val = 0 + 1 * y.val; omega
    | ⟨4, _⟩ => show z.val = 0 + 1 * z.val; omega

include h1 h2 in
/-- What the body leaves in its output block: at `(x, y, z)` the lattice block's values, blended one axis at a time. -/
theorem block_apply (x y z : Fin 96) :
    out0_A_3 c i arg2 harg2 arg3 harg3 arg4 harg4 arg5 harg5 arg6 harg6 x0 x1 x2 (ix5 0 x 0 y z)
      = separable (blockField x0) x y z := by
  unfold out0_A_3
  rw [planes_eq]
  refine View.read_writes_apply_of_pieces VO0_3 _
    (fun q : S1x96x1x96x96.Idx => (separable (blockField x0) (q 1) (q 3) (q 4) : EReal))
    (planes arg2 harg2 arg3 harg3 arg4 harg4 arg6 x0 x1 x2) ?_ (ix5 0 x 0 y z)
    ⟨_, List.mem_map.2 ⟨x, List.mem_reverse.2 (List.mem_finRange x), rfl⟩, by rw [← plane_emb x y z]; exact emb_mem _ _⟩
  intro p hp
  obtain ⟨k, -, rfl⟩ := List.mem_map.1 hp
  intro q
  obtain ⟨u, v, rfl⟩ : ∃ u v : Fin 96, q = ix5 (0 : Fin 1) (0 : Fin 1) (0 : Fin 1) u v := ⟨q 3, q 4, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩
  rw [plane_emb k u v]
  show planePay (F := Ideal) _ _ _ _ (ix5 0 0 0 u v) = (separable (blockField x0) k u v : EReal)
  rw [planePay_apply, slab_apply _ _ _ _ _ _ _ _ _ _ h1 h2, slab_apply _ _ _ _ _ _ _ _ _ _ h1 h2]
  have w0 : (FloatOps.ofBits .f32 (lit1 ⟨16 * k.val + (below k).val, word_lt k _⟩) : Ideal .f32) = (lo k : EReal) :=
    (ofBits_matrix k (below k) _).trans (congrArg Real.toEReal (weight_below k))
  have w1 : (FloatOps.ofBits .f32 (lit1 ⟨16 * k.val + (above k).val, word_lt k _⟩) : Ideal .f32) = (hi k : EReal) :=
    (ofBits_matrix k (above k) _).trans (congrArg Real.toEReal (weight_above k))
  rw [w0, w1]
  rfl

end

end Cert.Proof

end
-- ==== Proof.Array.lean ====
/- What the kernel's result holds when the program ends.

   Each grid point is one batch entry and one channel. Its input block is that part of the transposed argument, its other two
   blocks are the weight table and its transpose, and the block it writes is its part of the result. -/
module

public import proofs.«01_k».proof.Proof.Block
public import Idealize.ShloMosaic.Lib.Pipeline.Value
public import Idealize.ShloMosaic.Lib.Pipeline.ValueKit.Geometry
public import Idealize.ShloMosaic.Lib.StableHlo.ReadAt
public import Idealize.ShloMosaic.Lib.Tactic

@[expose] public section

set_option maxRecDepth 16384

noncomputable section

namespace Cert.Proof

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-! ## The arrays the region reads -/

/-- The argument at launch, -/
def argument : S2x16x16x16x3.Idx → EReal := m ((c : Thread nD τ).loc main_arg0)

/-- the argument with its channel axis moved next to the batch axis, -/
def moved : S2x16x3x16x16.Idx → EReal := V m c main_v0

/-- the weights laid out with a lattice point per row, -/
def tableT : S16x96.Idx → EReal := V m c main_cst

/-- and the weights laid out with a resampled position per row. -/
def table : S96x16.Idx → EReal := V m c main_cst_0

/-- The moved argument at batch entry `b`, channel `q` is the argument there. -/
theorem moved_apply (b : Fin 2) (q : Fin 3) (n j k : Fin 16) :
    moved m c (ix5 b n q j k) = argument m c (ix5 b n j k q) := by
  unfold moved V V0
  simp only [hostOps0, List.flatten_cons, List.flatten_nil, List.append_nil]
  after_reads_at
  rfl

/-- Row `k` of the first table holds every position's weight on lattice point `k`, -/
theorem tableT_apply (k : Fin 16) (z : Fin 96) : tableT m c (ix2 k z) = ((weight z k : ℝ) : EReal) := by
  unfold tableT V V0
  simp only [hostOps0, List.flatten_cons, List.flatten_nil, List.append_nil]
  after_reads_at
  have h : 96 * k.val + z.val < S16x96.numel := by have h : S16x96.numel = 1536 := by decide
                                                   omega
  rw [show S16x96.rowMajor (ix2 k z) = ⟨96 * k.val + z.val, h⟩ from
    Fin.ext ((rowMajor_val2 (ix2 k z) 96 rfl).trans (by show k.val * 96 + z.val = 96 * k.val + z.val; omega))]
  exact ofBits_transposed z k _

/-- and row `y` of the second holds position `y`'s weight on every lattice point. -/
theorem table_apply (y : Fin 96) (j : Fin 16) : table m c (ix2 y j) = ((weight y j : ℝ) : EReal) := by
  unfold table V V0
  simp only [hostOps0, List.flatten_cons, List.flatten_nil, List.append_nil]
  after_reads_at
  have h : 16 * y.val + j.val < S96x16.numel := by have h : S96x16.numel = 1536 := by decide
                                                   omega
  rw [show S96x16.rowMajor (ix2 y j) = ⟨16 * y.val + j.val, h⟩ from
    Fin.ext ((rowMajor_val2 (ix2 y j) 16 rfl).trans (by show y.val * 16 + j.val = 16 * y.val + j.val; omega))]
  exact ofBits_matrix y j _

/-! ## The blocks -/

/-- The batch entry of a grid point, -/
def batchOf (t : Fin grid0.N) : Fin 2 := grid0.coords t 0

/-- and its channel. -/
def channelOf (t : Fin grid0.N) : Fin 3 := grid0.coords t 1

/-- A grid point's input block has its batch entry and channel as its place in the array, -/
theorem index_input (t : Fin grid0.N) : win0_0.index t = ![(batchOf t).val, 0, (channelOf t).val, 0, 0] := by
  revert t; decide +kernel

/-- and so has its output block. -/
theorem index_output (t : Fin grid0.N) : win0_3.index t = ![(batchOf t).val, 0, (channelOf t).val, 0, 0] := by
  revert t; decide +kernel

/-- A grid point's input block is the argument at its batch entry and channel, -/
theorem iblk_input (t : Fin grid0.N) (n j k : Fin 16) :
    (iblk m c 0 t : S1x16x1x16x16.Idx → EReal) (ix5 0 n 0 j k) = argument m c (ix5 (batchOf t) n j k (channelOf t)) := by
  rw [← moved_apply]
  show moved m c ((win0_0.rect t).emb (ix5 0 n 0 j k)) = _
  refine congrArg (moved m c) (funext fun a => Fin.ext ?_)
  rw [Pipeline.Window.rect_emb_val win0_0 t (ix5 0 n 0 j k) a, index_input]
  fin_cases a
  · show (batchOf t).val * 1 + 0 = (batchOf t).val; omega
  · show 0 * 16 + n.val = n.val; omega
  · show (channelOf t).val * 1 + 0 = (channelOf t).val; omega
  · show 0 * 16 + j.val = j.val; omega
  · show 0 * 16 + k.val = k.val; omega

/-- its second block is the whole first table, -/
theorem iblk_tableT (t : Fin grid0.N) (k : Fin 16) (z : Fin 96) :
    (iblk m c 1 t : S16x96.Idx → EReal) (ix2 k z) = ((weight z k : ℝ) : EReal) := by
  rw [← tableT_apply m c]
  show tableT m c ((win0_1.rect t).emb (ix2 k z)) = _
  refine congrArg (tableT m c) (funext fun a => Fin.ext ?_)
  rw [Pipeline.Window.rect_emb_val win0_1 t (ix2 k z) a]
  fin_cases a
  · show 0 * 16 + k.val = k.val; omega
  · show 0 * 96 + z.val = z.val; omega

/-- and its third is the whole second one. -/
theorem iblk_table (t : Fin grid0.N) (y : Fin 96) (j : Fin 16) :
    (iblk m c 2 t : S96x16.Idx → EReal) (ix2 y j) = ((weight y j : ℝ) : EReal) := by
  rw [← table_apply m c]
  show table m c ((win0_2.rect t).emb (ix2 y j)) = _
  refine congrArg (table m c) (funext fun a => Fin.ext ?_)
  rw [Pipeline.Window.rect_emb_val win0_2 t (ix2 y j) a]
  fin_cases a
  · show 0 * 96 + y.val = y.val; omega
  · show 0 * 16 + j.val = j.val; omega

/-! ## The result -/

/-- The resampled argument, laid out as the region leaves it: batch, x, channel, y, z. -/
def resampled : S2x96x3x96x96.Idx → EReal := fun i =>
  separable (fun n j k => argument m c (ix5 (i 0) n j k (i 2))) (i 1) (i 3) (i 4)

/-- A grid point leaves in its output block its batch entry and channel, resampled. -/
theorem left_apply (t : Fin grid0.N) (x y z : Fin 96) :
    (outsAt0 m c t : S1x96x1x96x96.Idx → EReal) (ix5 0 x 0 y z)
      = resampled m c (ix5 (batchOf t) x (channelOf t) y z) := by
  unfold outsAt0
  rw [block_apply _ _ _ _ _ _ _ _ _ _ _ _ _ _ _ (iblk_tableT m c t) (iblk_table m c t)]
  show separable _ x y z = separable _ x y z
  congr 1
  funext n j k
  exact iblk_input m c t n j k

/-- An output block's elements are at its batch entry and channel in the array. -/
theorem emb_output (t : Fin grid0.N) (x y z : Fin 96) :
    (win0_3.rect t).emb (ix5 0 x 0 y z) = (ix5 (batchOf t) x (channelOf t) y z : S2x96x3x96x96.Idx) := by
  refine funext fun a => Fin.ext ?_
  rw [Pipeline.Window.rect_emb_val win0_3 t (ix5 0 x 0 y z) a, index_output]
  fin_cases a
  · show (batchOf t).val * 1 + 0 = (batchOf t).val; omega
  · show 0 * 96 + x.val = x.val; omega
  · show (channelOf t).val * 1 + 0 = (channelOf t).val; omega
  · show 0 * 96 + y.val = y.val; omega
  · show 0 * 96 + z.val = z.val; omega

/-- An index of an output block is named by its coordinates along x, y and z. -/
theorem block_index (i : S1x96x1x96x96.Idx) : i = ix5 0 (i 1) 0 (i 3) (i 4) := by
  refine funext fun a => ?_
  fin_cases a
  · exact Subsingleton.elim (α := Fin 1) _ _
  · rfl
  · exact Subsingleton.elim (α := Fin 1) _ _
  · rfl
  · rfl

/-- The output blocks cover the array. -/
theorem output_covers : win0_3.Covers := by decide +kernel

/-- What a grid point leaves, at any index of its block. -/
theorem left_eq (t : Fin grid0.N) (i : S1x96x1x96x96.Idx) :
    (outsAt0 m c t : S1x96x1x96x96.Idx → EReal) i = resampled m c ((win0_3.rect t).emb i) := by
  rw [block_index i]
  exact (left_apply m c t _ _ _).trans (congrArg (resampled m c) (emb_output t _ _ _).symm)

attribute [local irreducible] outsAt0 resampled in
/-- The six blocks fill the region's result, which ends holding the resampled argument. -/
theorem region_result : ((dats m 0 c).arrAt 3 cfg0.N : S2x96x3x96x96.Idx → EReal) = resampled m c := by
  refine Pipeline.Dat.arrAt_eq_of_covers (dats m 0 c) 3 (resampled m c) output_covers ?_ (Memref.isWhole_whole _)
  intro t _ y
  exact (cast_eq _ _).trans ((congrFun (after0_3 m c t) y).trans (left_eq m c t y))

/-- The contents the program's last operation starts from: the region's result and, elsewhere, what was there before. -/
def afterRegion : Valuation τ sig (Elt Ideal) :=
  Pipeline.withArrays spec0 c (V0 m c) fun w => (dats m 0 c).arrAt w cfg0.N

/-- The program's result when it ends. -/
def result : S2x96x96x96x3.Idx → EReal :=
  Pipeline.afterTail₀ cfgs (dats m) 0 (V0 m) [hostOps1] c main_v2

/-- The program's last operation moves the channel axis back to the end. -/
theorem result_transpose (b : Fin 2) (x y z : Fin 96) (q : Fin 3) :
    result m c (ix5 b x y z q) = (afterRegion m c (Proc.devRef .tc main_v1) : S2x96x3x96x96.Idx → EReal) (ix5 b x q y z) := by
  show (StableHlo.after (List.flatten [hostOps1]) (afterRegion m c) (Proc.devRef .tc main_v2) : S2x96x96x96x3.Idx → EReal) _ = _
  simp only [hostOps1, List.flatten_cons, List.flatten_nil, List.append_nil]
  after_reads_at

/-- So the result at batch entry `b`, position `(x, y, z)` and channel `q` is the argument there, resampled. -/
theorem result_apply (b : Fin 2) (x y z : Fin 96) (q : Fin 3) :
    result m c (ix5 b x y z q) = separable (fun n j k => argument m c (ix5 b n j k q)) x y z := by
  rw [result_transpose]
  have h : (afterRegion m c (Proc.devRef .tc main_v1) : S2x96x3x96x96.Idx → EReal) = resampled m c :=
    (Pipeline.withArrays_arr spec0 winFacts0.arr_inj c (V0 m c) _ 3).trans (region_result m c)
  rw [h]
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Corners
public import proofs.«01_k».proof.Proof.Array
public import Idealize.ShloMosaic.Adequacy
public import Idealize.ShloMosaic.Init

@[expose] public section

noncomputable section

namespace Cert.Proof

open Idealize.ShloMosaic Idealize.ShloMosaic.TcCoe Idealize.SL.Sem

/-- The reference terminates from every launch, leaves its argument as it was, and every semaphore counter reads zero at the
    end: it declares no semaphore at all. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

/-- From equal arguments the kernel's result and the reference's are equal at every index: both are the trilinear resampling
    of the argument, the one axis by axis and the other corner by corner. -/
theorem results_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h : lattice V = argument m c) : Cert.ReferenceIdeal.Value.res_main_v317 V = result m c := by
  refine funext fun i : Cert.ReferenceIdeal.S2x96x96x96x3.Idx => ?_
  obtain ⟨b, x, y, z, q, rfl⟩ : ∃ (b : Fin 2) (x y z : Fin 96) (q : Fin 3), i = ix5 b x y z q :=
    ⟨i 0, i 1, i 2, i 3, i 4, eq_ix5 i⟩
  refine (reference_value V b x y z q).trans (Eq.trans ?_ (result_apply m c b x y z q).symm)
  rw [h]
  exact (separable_eq_eightCorners _ x y z).symm

/-- The kernel ends with `result` in its result array and its argument as it was. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v2) = result m c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run _ _ _).mono
    (fun _ h c => ⟨(h.1 c).2 Cert.KernelIdeal.main_v2 (Pipeline.mem_restRefs_of _ (by decide) (by decide)), h.2.1 c⟩)
    (θ_run_and (Cert.KernelIdeal.Gen.run_main (F := Ideal) m ρ) (Cert.KernelIdeal.Gen.frame (F := Ideal) m ρ))

/-- Over the extended reals the kernel and the reference end with equal results. -/
theorem results_agree : Cert.algebraic_KernelIdeal_ReferenceIdeal
    (hKernelIdeal := Cert.KernelIdeal.Gen.facts) (hReferenceIdeal := Cert.ReferenceIdeal.Gen.facts) :=
  fun m g m' g' _ hargs => ⟨fun c => result m c, run_kernel m g,
    (θ_run _ _ _).mono (fun _ h c => ⟨(h c).1.trans (results_eq m _ c (hargs c)), (h c).2⟩)
      (Cert.ReferenceIdeal.Value.run m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, results_agree⟩

end Cert.Proof

end
